-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S9x4096x512 : Shape := ⟨3, ![9, 4096, 512]⟩
abbrev S9x4096x64 : Shape := ⟨3, ![9, 4096, 64]⟩
abbrev S8 : Shape := ⟨1, ![8]⟩
abbrev S1 : Shape := ⟨1, ![1]⟩
abbrev S9 : Shape := ⟨1, ![9]⟩
abbrev S1x4096x512 : Shape := ⟨3, ![1, 4096, 512]⟩
abbrev S1x4096x64 : Shape := ⟨3, ![1, 4096, 64]⟩
abbrev S64x4096 : Shape := ⟨2, ![64, 4096]⟩
abbrev S4096x64 : Shape := ⟨2, ![4096, 64]⟩
abbrev S1x128x512 : Shape := ⟨3, ![1, 128, 512]⟩
abbrev S128x512 : Shape := ⟨2, ![128, 512]⟩
abbrev S256x256 : Shape := ⟨2, ![256, 256]⟩
abbrev S128x64 : Shape := ⟨2, ![128, 64]⟩
abbrev S256x64 : Shape := ⟨2, ![256, 64]⟩
abbrev S1x256 : Shape := ⟨2, ![1, 256]⟩
abbrev S64x256 : Shape := ⟨2, ![64, 256]⟩
abbrev S1x256x64 : Shape := ⟨3, ![1, 256, 64]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩

abbrev nBuf : Space → Nat
  | .hbm => 7
  | .vmem => 9
  | .smem => 4
  | _ => 0

abbrev bufTy : (tb : Table) → Fin (tcTables nBuf tb) → BufTy
  | .hbm, ⟨0, _⟩ => ⟨S9x4096x512, .fp8e4m3⟩
  | .hbm, ⟨1, _⟩ => ⟨S9x4096x64, .fp8e4m3⟩
  | .hbm, ⟨2, _⟩ => ⟨S9x4096x64, .fp8e4m3⟩
  | .hbm, ⟨3, _⟩ => ⟨S8, .f32⟩
  | .hbm, ⟨4, _⟩ => ⟨S1, .f32⟩
  | .hbm, ⟨5, _⟩ => ⟨S1, .f32⟩
  | .hbm, ⟨6, _⟩ => ⟨S9x4096x512, .bf16⟩
  | .local _ .vmem, ⟨0, _⟩ => ⟨S1x4096x512, .fp8e4m3⟩
  | .local _ .vmem, ⟨1, _⟩ => ⟨S1x4096x512, .fp8e4m3⟩
  | .local _ .vmem, ⟨2, _⟩ => ⟨S1x4096x64, .fp8e4m3⟩
  | .local _ .vmem, ⟨3, _⟩ => ⟨S1x4096x64, .fp8e4m3⟩
  | .local _ .vmem, ⟨4, _⟩ => ⟨S1x4096x64, .fp8e4m3⟩
  | .local _ .vmem, ⟨5, _⟩ => ⟨S1x4096x64, .fp8e4m3⟩
  | .local _ .vmem, ⟨6, _⟩ => ⟨S1x4096x512, .bf16⟩
  | .local _ .vmem, ⟨7, _⟩ => ⟨S1x4096x512, .bf16⟩
  | .local _ .vmem, ⟨8, _⟩ => ⟨S64x4096, .bf16⟩
  | .local _ .smem, ⟨0, _⟩ => ⟨S9, .i32⟩
  | .local _ .smem, ⟨1, _⟩ => ⟨S8, .f32⟩
  | .local _ .smem, ⟨2, _⟩ => ⟨S1, .f32⟩
  | .local _ .smem, ⟨3, _⟩ => ⟨S1, .f32⟩
  | _, _ => ⟨S9x4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_arg6 : Ref sig .tc := ⟨.smem, 0, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 1, rfl⟩
abbrev cc0_stg1_0 : Ref sig .tc := ⟨.smem, 2, rfl⟩
abbrev cc0_stg2_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![9], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c32_i32 : BitVec 32 := 32#32
  let v9 : BitVec 32 := Scalar.addi c0_i32 c32_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  v10
def k0_off2 (k0_t1 : Fin k0_t1_loop.trips) : Fin 3 → Nat :=
  let c0_7 : Index := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let v18 : Index := Scalar.indexCast v11
  let c0_8 : Index := 0#32
  ![0, v18.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let c256_i32_17 : BitVec 32 := 256#32
  let v49 : BitVec 32 := Scalar.muli v21 c256_i32_17
  v49
def k0_off3 (k0_t1 : Fin k0_t1_loop.trips) : Fin 3 → Nat :=
  let c0_18 : Index := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let c256_i32_17 : BitVec 32 := 256#32
  let v49 : BitVec 32 := Scalar.muli v21 c256_i32_17
  let v50 : BitVec 32 := v49
  let v51 : Index := Scalar.indexCast v50
  let c0_19 : Index := 0#32
  ![0, v51.toNat, 0]
def k0_off4 (k0_t1 : Fin k0_t1_loop.trips) : Fin 2 → Nat :=
  let c0_24 : Index := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let c256_i32_17 : BitVec 32 := 256#32
  let v49 : BitVec 32 := Scalar.muli v21 c256_i32_17
  let v50 : BitVec 32 := v49
  let v74 : Index := Scalar.indexCast v50
  ![0, v74.toNat]
@[reducible] def k0_t2_loop (k0_t1 : Fin k0_t1_loop.trips) : Scf.Loop 32 :=
  let c0_i32_26 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v81 : BitVec 32 := Scalar.subi v21 c0_i32_26
  let c1_i32_27 : BitVec 32 := 1#32
  let v83 : BitVec 32 := Scalar.divsi v81 c1_i32_27
  let v84 : BitVec 32 := Scalar.muli v83 c1_i32_27
  let v85 : BitVec 32 := Scalar.addi c0_i32_26 v84
  let c1_i32_28 : BitVec 32 := 1#32
  ⟨c0_i32_26, v85, c1_i32_28⟩
def k0_mult3 (k0_t1 : Fin k0_t1_loop.trips) (k0_t2 : Fin (k0_t2_loop k0_t1).trips) : BitVec 32 :=
  let c0_i32_26 : BitVec 32 := 0#32
  let c1_i32_28 : BitVec 32 := 1#32
  let arg11 : BitVec 32 := Scf.iv c0_i32_26 c1_i32_28 k0_t2
  let c256_i32_107 : BitVec 32 := 256#32
  let v368 : BitVec 32 := Scalar.muli arg11 c256_i32_107
  v368
def k0_off5 (k0_t1 : Fin k0_t1_loop.trips) (k0_t2 : Fin (k0_t2_loop k0_t1).trips) : Fin 3 → Nat :=
  let c0_108 : Index := 0#32
  let c0_i32_26 : BitVec 32 := 0#32
  let c1_i32_28 : BitVec 32 := 1#32
  let arg11 : BitVec 32 := Scf.iv c0_i32_26 c1_i32_28 k0_t2
  let c256_i32_107 : BitVec 32 := 256#32
  let v368 : BitVec 32 := Scalar.muli arg11 c256_i32_107
  let v369 : BitVec 32 := v368
  let v370 : Index := Scalar.indexCast v369
  let c0_109 : Index := 0#32
  ![0, v370.toNat, 0]
def k0_off6 (k0_t1 : Fin k0_t1_loop.trips) (k0_t2 : Fin (k0_t2_loop k0_t1).trips) : Fin 2 → Nat :=
  let c0_113 : Index := 0#32
  let c0_i32_26 : BitVec 32 := 0#32
  let c1_i32_28 : BitVec 32 := 1#32
  let arg11 : BitVec 32 := Scf.iv c0_i32_26 c1_i32_28 k0_t2
  let c256_i32_107 : BitVec 32 := 256#32
  let v368 : BitVec 32 := Scalar.muli arg11 c256_i32_107
  let v369 : BitVec 32 := v368
  let v388 : Index := Scalar.indexCast v369
  ![0, v388.toNat]
@[reducible] def k0_t3_loop (k0_t1 : Fin k0_t1_loop.trips) : Scf.Loop 32 :=
  let c0_i32_26 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v81 : BitVec 32 := Scalar.subi v21 c0_i32_26
  let c1_i32_27 : BitVec 32 := 1#32
  let v83 : BitVec 32 := Scalar.divsi v81 c1_i32_27
  let v84 : BitVec 32 := Scalar.muli v83 c1_i32_27
  let v85 : BitVec 32 := Scalar.addi c0_i32_26 v84
  let v82 : BitVec 32 := Scalar.addi c0_i32_26 v81
  let c1_i32_29 : BitVec 32 := 1#32
  ⟨v85, v82, c1_i32_29⟩
def k0_mult4 (k0_t1 : Fin k0_t1_loop.trips) (k0_t3 : Fin (k0_t3_loop k0_t1).trips) : BitVec 32 :=
  let c0_i32_26 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v81 : BitVec 32 := Scalar.subi v21 c0_i32_26
  let c1_i32_27 : BitVec 32 := 1#32
  let v83 : BitVec 32 := Scalar.divsi v81 c1_i32_27
  let v84 : BitVec 32 := Scalar.muli v83 c1_i32_27
  let v85 : BitVec 32 := Scalar.addi c0_i32_26 v84
  let c1_i32_29 : BitVec 32 := 1#32
  let arg11 : BitVec 32 := Scf.iv v85 c1_i32_29 k0_t3
  let c256_i32_107 : BitVec 32 := 256#32
  let v368 : BitVec 32 := Scalar.muli arg11 c256_i32_107
  v368
def k0_off7 (k0_t1 : Fin k0_t1_loop.trips) (k0_t3 : Fin (k0_t3_loop k0_t1).trips) : Fin 3 → Nat :=
  let c0_108 : Index := 0#32
  let c0_i32_26 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v81 : BitVec 32 := Scalar.subi v21 c0_i32_26
  let c1_i32_27 : BitVec 32 := 1#32
  let v83 : BitVec 32 := Scalar.divsi v81 c1_i32_27
  let v84 : BitVec 32 := Scalar.muli v83 c1_i32_27
  let v85 : BitVec 32 := Scalar.addi c0_i32_26 v84
  let c1_i32_29 : BitVec 32 := 1#32
  let arg11 : BitVec 32 := Scf.iv v85 c1_i32_29 k0_t3
  let c256_i32_107 : BitVec 32 := 256#32
  let v368 : BitVec 32 := Scalar.muli arg11 c256_i32_107
  let v369 : BitVec 32 := v368
  let v370 : Index := Scalar.indexCast v369
  let c0_109 : Index := 0#32
  ![0, v370.toNat, 0]
def k0_off8 (k0_t1 : Fin k0_t1_loop.trips) (k0_t3 : Fin (k0_t3_loop k0_t1).trips) : Fin 2 → Nat :=
  let c0_113 : Index := 0#32
  let c0_i32_26 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v81 : BitVec 32 := Scalar.subi v21 c0_i32_26
  let c1_i32_27 : BitVec 32 := 1#32
  let v83 : BitVec 32 := Scalar.divsi v81 c1_i32_27
  let v84 : BitVec 32 := Scalar.muli v83 c1_i32_27
  let v85 : BitVec 32 := Scalar.addi c0_i32_26 v84
  let c1_i32_29 : BitVec 32 := 1#32
  let arg11 : BitVec 32 := Scf.iv v85 c1_i32_29 k0_t3
  let c256_i32_107 : BitVec 32 := 256#32
  let v368 : BitVec 32 := Scalar.muli arg11 c256_i32_107
  let v369 : BitVec 32 := v368
  let v388 : Index := Scalar.indexCast v369
  ![0, v388.toNat]
def k0_off9 (k0_t1 : Fin k0_t1_loop.trips) : Fin 3 → Nat :=
  let c0_33 : Index := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let v109 : Index := Scalar.indexCast v11
  let c0_34 : Index := 0#32
  ![0, v109.toNat, 0]
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let c256_i32_42 : BitVec 32 := 256#32
  let v134 : BitVec 32 := Scalar.muli v21 c256_i32_42
  v134
@[reducible] def k0_t4_loop (k0_t1 : Fin k0_t1_loop.trips) : Scf.Loop 32 :=
  let c0_i32_51 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v166 : BitVec 32 := Scalar.subi v21 c0_i32_51
  let c1_i32_52 : BitVec 32 := 1#32
  let v168 : BitVec 32 := Scalar.divsi v166 c1_i32_52
  let v169 : BitVec 32 := Scalar.muli v168 c1_i32_52
  let v170 : BitVec 32 := Scalar.addi c0_i32_51 v169
  let c1_i32_53 : BitVec 32 := 1#32
  ⟨c0_i32_51, v170, c1_i32_53⟩
def k0_mult6 (k0_t1 : Fin k0_t1_loop.trips) (k0_t4 : Fin (k0_t4_loop k0_t1).trips) : BitVec 32 :=
  let c0_i32_51 : BitVec 32 := 0#32
  let c1_i32_53 : BitVec 32 := 1#32
  let arg11 : BitVec 32 := Scf.iv c0_i32_51 c1_i32_53 k0_t4
  let c256_i32_107 : BitVec 32 := 256#32
  let v368 : BitVec 32 := Scalar.muli arg11 c256_i32_107
  v368
def k0_off10 (k0_t1 : Fin k0_t1_loop.trips) (k0_t4 : Fin (k0_t4_loop k0_t1).trips) : Fin 3 → Nat :=
  let c0_108 : Index := 0#32
  let c0_i32_51 : BitVec 32 := 0#32
  let c1_i32_53 : BitVec 32 := 1#32
  let arg11 : BitVec 32 := Scf.iv c0_i32_51 c1_i32_53 k0_t4
  let c256_i32_107 : BitVec 32 := 256#32
  let v368 : BitVec 32 := Scalar.muli arg11 c256_i32_107
  let v369 : BitVec 32 := v368
  let v370 : Index := Scalar.indexCast v369
  let c0_109 : Index := 0#32
  ![0, v370.toNat, 0]
def k0_off11 (k0_t1 : Fin k0_t1_loop.trips) (k0_t4 : Fin (k0_t4_loop k0_t1).trips) : Fin 2 → Nat :=
  let c0_113 : Index := 0#32
  let c0_i32_51 : BitVec 32 := 0#32
  let c1_i32_53 : BitVec 32 := 1#32
  let arg11 : BitVec 32 := Scf.iv c0_i32_51 c1_i32_53 k0_t4
  let c256_i32_107 : BitVec 32 := 256#32
  let v368 : BitVec 32 := Scalar.muli arg11 c256_i32_107
  let v369 : BitVec 32 := v368
  let v388 : Index := Scalar.indexCast v369
  ![0, v388.toNat]
@[reducible] def k0_t5_loop (k0_t1 : Fin k0_t1_loop.trips) : Scf.Loop 32 :=
  let c0_i32_51 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v166 : BitVec 32 := Scalar.subi v21 c0_i32_51
  let c1_i32_52 : BitVec 32 := 1#32
  let v168 : BitVec 32 := Scalar.divsi v166 c1_i32_52
  let v169 : BitVec 32 := Scalar.muli v168 c1_i32_52
  let v170 : BitVec 32 := Scalar.addi c0_i32_51 v169
  let v167 : BitVec 32 := Scalar.addi c0_i32_51 v166
  let c1_i32_54 : BitVec 32 := 1#32
  ⟨v170, v167, c1_i32_54⟩
def k0_mult7 (k0_t1 : Fin k0_t1_loop.trips) (k0_t5 : Fin (k0_t5_loop k0_t1).trips) : BitVec 32 :=
  let c0_i32_51 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v166 : BitVec 32 := Scalar.subi v21 c0_i32_51
  let c1_i32_52 : BitVec 32 := 1#32
  let v168 : BitVec 32 := Scalar.divsi v166 c1_i32_52
  let v169 : BitVec 32 := Scalar.muli v168 c1_i32_52
  let v170 : BitVec 32 := Scalar.addi c0_i32_51 v169
  let c1_i32_54 : BitVec 32 := 1#32
  let arg11 : BitVec 32 := Scf.iv v170 c1_i32_54 k0_t5
  let c256_i32_107 : BitVec 32 := 256#32
  let v368 : BitVec 32 := Scalar.muli arg11 c256_i32_107
  v368
def k0_off12 (k0_t1 : Fin k0_t1_loop.trips) (k0_t5 : Fin (k0_t5_loop k0_t1).trips) : Fin 3 → Nat :=
  let c0_108 : Index := 0#32
  let c0_i32_51 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v166 : BitVec 32 := Scalar.subi v21 c0_i32_51
  let c1_i32_52 : BitVec 32 := 1#32
  let v168 : BitVec 32 := Scalar.divsi v166 c1_i32_52
  let v169 : BitVec 32 := Scalar.muli v168 c1_i32_52
  let v170 : BitVec 32 := Scalar.addi c0_i32_51 v169
  let c1_i32_54 : BitVec 32 := 1#32
  let arg11 : BitVec 32 := Scf.iv v170 c1_i32_54 k0_t5
  let c256_i32_107 : BitVec 32 := 256#32
  let v368 : BitVec 32 := Scalar.muli arg11 c256_i32_107
  let v369 : BitVec 32 := v368
  let v370 : Index := Scalar.indexCast v369
  let c0_109 : Index := 0#32
  ![0, v370.toNat, 0]
def k0_off13 (k0_t1 : Fin k0_t1_loop.trips) (k0_t5 : Fin (k0_t5_loop k0_t1).trips) : Fin 2 → Nat :=
  let c0_113 : Index := 0#32
  let c0_i32_51 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v166 : BitVec 32 := Scalar.subi v21 c0_i32_51
  let c1_i32_52 : BitVec 32 := 1#32
  let v168 : BitVec 32 := Scalar.divsi v166 c1_i32_52
  let v169 : BitVec 32 := Scalar.muli v168 c1_i32_52
  let v170 : BitVec 32 := Scalar.addi c0_i32_51 v169
  let c1_i32_54 : BitVec 32 := 1#32
  let arg11 : BitVec 32 := Scf.iv v170 c1_i32_54 k0_t5
  let c256_i32_107 : BitVec 32 := 256#32
  let v368 : BitVec 32 := Scalar.muli arg11 c256_i32_107
  let v369 : BitVec 32 := v368
  let v388 : Index := Scalar.indexCast v369
  ![0, v388.toNat]
def k0_off14 (k0_t1 : Fin k0_t1_loop.trips) : Fin 3 → Nat :=
  let c0_58 : Index := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let v194 : Index := Scalar.indexCast v11
  let c128 : Index := 128#32
  ![0, v194.toNat, 128]
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let c256_i32_66 : BitVec 32 := 256#32
  let v219 : BitVec 32 := Scalar.muli v21 c256_i32_66
  v219
@[reducible] def k0_t6_loop (k0_t1 : Fin k0_t1_loop.trips) : Scf.Loop 32 :=
  let c0_i32_75 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v251 : BitVec 32 := Scalar.subi v21 c0_i32_75
  let c1_i32_76 : BitVec 32 := 1#32
  let v253 : BitVec 32 := Scalar.divsi v251 c1_i32_76
  let v254 : BitVec 32 := Scalar.muli v253 c1_i32_76
  let v255 : BitVec 32 := Scalar.addi c0_i32_75 v254
  let c1_i32_77 : BitVec 32 := 1#32
  ⟨c0_i32_75, v255, c1_i32_77⟩
def k0_mult9 (k0_t1 : Fin k0_t1_loop.trips) (k0_t6 : Fin (k0_t6_loop k0_t1).trips) : BitVec 32 :=
  let c0_i32_75 : BitVec 32 := 0#32
  let c1_i32_77 : BitVec 32 := 1#32
  let arg11 : BitVec 32 := Scf.iv c0_i32_75 c1_i32_77 k0_t6
  let c256_i32_107 : BitVec 32 := 256#32
  let v368 : BitVec 32 := Scalar.muli arg11 c256_i32_107
  v368
def k0_off15 (k0_t1 : Fin k0_t1_loop.trips) (k0_t6 : Fin (k0_t6_loop k0_t1).trips) : Fin 3 → Nat :=
  let c0_108 : Index := 0#32
  let c0_i32_75 : BitVec 32 := 0#32
  let c1_i32_77 : BitVec 32 := 1#32
  let arg11 : BitVec 32 := Scf.iv c0_i32_75 c1_i32_77 k0_t6
  let c256_i32_107 : BitVec 32 := 256#32
  let v368 : BitVec 32 := Scalar.muli arg11 c256_i32_107
  let v369 : BitVec 32 := v368
  let v370 : Index := Scalar.indexCast v369
  let c0_109 : Index := 0#32
  ![0, v370.toNat, 0]
def k0_off16 (k0_t1 : Fin k0_t1_loop.trips) (k0_t6 : Fin (k0_t6_loop k0_t1).trips) : Fin 2 → Nat :=
  let c0_113 : Index := 0#32
  let c0_i32_75 : BitVec 32 := 0#32
  let c1_i32_77 : BitVec 32 := 1#32
  let arg11 : BitVec 32 := Scf.iv c0_i32_75 c1_i32_77 k0_t6
  let c256_i32_107 : BitVec 32 := 256#32
  let v368 : BitVec 32 := Scalar.muli arg11 c256_i32_107
  let v369 : BitVec 32 := v368
  let v388 : Index := Scalar.indexCast v369
  ![0, v388.toNat]
@[reducible] def k0_t7_loop (k0_t1 : Fin k0_t1_loop.trips) : Scf.Loop 32 :=
  let c0_i32_75 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v251 : BitVec 32 := Scalar.subi v21 c0_i32_75
  let c1_i32_76 : BitVec 32 := 1#32
  let v253 : BitVec 32 := Scalar.divsi v251 c1_i32_76
  let v254 : BitVec 32 := Scalar.muli v253 c1_i32_76
  let v255 : BitVec 32 := Scalar.addi c0_i32_75 v254
  let v252 : BitVec 32 := Scalar.addi c0_i32_75 v251
  let c1_i32_78 : BitVec 32 := 1#32
  ⟨v255, v252, c1_i32_78⟩
def k0_mult10 (k0_t1 : Fin k0_t1_loop.trips) (k0_t7 : Fin (k0_t7_loop k0_t1).trips) : BitVec 32 :=
  let c0_i32_75 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v251 : BitVec 32 := Scalar.subi v21 c0_i32_75
  let c1_i32_76 : BitVec 32 := 1#32
  let v253 : BitVec 32 := Scalar.divsi v251 c1_i32_76
  let v254 : BitVec 32 := Scalar.muli v253 c1_i32_76
  let v255 : BitVec 32 := Scalar.addi c0_i32_75 v254
  let c1_i32_78 : BitVec 32 := 1#32
  let arg11 : BitVec 32 := Scf.iv v255 c1_i32_78 k0_t7
  let c256_i32_107 : BitVec 32 := 256#32
  let v368 : BitVec 32 := Scalar.muli arg11 c256_i32_107
  v368
def k0_off17 (k0_t1 : Fin k0_t1_loop.trips) (k0_t7 : Fin (k0_t7_loop k0_t1).trips) : Fin 3 → Nat :=
  let c0_108 : Index := 0#32
  let c0_i32_75 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v251 : BitVec 32 := Scalar.subi v21 c0_i32_75
  let c1_i32_76 : BitVec 32 := 1#32
  let v253 : BitVec 32 := Scalar.divsi v251 c1_i32_76
  let v254 : BitVec 32 := Scalar.muli v253 c1_i32_76
  let v255 : BitVec 32 := Scalar.addi c0_i32_75 v254
  let c1_i32_78 : BitVec 32 := 1#32
  let arg11 : BitVec 32 := Scf.iv v255 c1_i32_78 k0_t7
  let c256_i32_107 : BitVec 32 := 256#32
  let v368 : BitVec 32 := Scalar.muli arg11 c256_i32_107
  let v369 : BitVec 32 := v368
  let v370 : Index := Scalar.indexCast v369
  let c0_109 : Index := 0#32
  ![0, v370.toNat, 0]
def k0_off18 (k0_t1 : Fin k0_t1_loop.trips) (k0_t7 : Fin (k0_t7_loop k0_t1).trips) : Fin 2 → Nat :=
  let c0_113 : Index := 0#32
  let c0_i32_75 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v251 : BitVec 32 := Scalar.subi v21 c0_i32_75
  let c1_i32_76 : BitVec 32 := 1#32
  let v253 : BitVec 32 := Scalar.divsi v251 c1_i32_76
  let v254 : BitVec 32 := Scalar.muli v253 c1_i32_76
  let v255 : BitVec 32 := Scalar.addi c0_i32_75 v254
  let c1_i32_78 : BitVec 32 := 1#32
  let arg11 : BitVec 32 := Scf.iv v255 c1_i32_78 k0_t7
  let c256_i32_107 : BitVec 32 := 256#32
  let v368 : BitVec 32 := Scalar.muli arg11 c256_i32_107
  let v369 : BitVec 32 := v368
  let v388 : Index := Scalar.indexCast v369
  ![0, v388.toNat]
def k0_off19 (k0_t1 : Fin k0_t1_loop.trips) : Fin 3 → Nat :=
  let c0_82 : Index := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let v279 : Index := Scalar.indexCast v11
  let c256 : Index := 256#32
  ![0, v279.toNat, 256]
def k0_mult11 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let c256_i32_90 : BitVec 32 := 256#32
  let v304 : BitVec 32 := Scalar.muli v21 c256_i32_90
  v304
@[reducible] def k0_t8_loop (k0_t1 : Fin k0_t1_loop.trips) : Scf.Loop 32 :=
  let c0_i32_99 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v336 : BitVec 32 := Scalar.subi v21 c0_i32_99
  let c1_i32_100 : BitVec 32 := 1#32
  let v338 : BitVec 32 := Scalar.divsi v336 c1_i32_100
  let v339 : BitVec 32 := Scalar.muli v338 c1_i32_100
  let v340 : BitVec 32 := Scalar.addi c0_i32_99 v339
  let c1_i32_101 : BitVec 32 := 1#32
  ⟨c0_i32_99, v340, c1_i32_101⟩
def k0_mult12 (k0_t1 : Fin k0_t1_loop.trips) (k0_t8 : Fin (k0_t8_loop k0_t1).trips) : BitVec 32 :=
  let c0_i32_99 : BitVec 32 := 0#32
  let c1_i32_101 : BitVec 32 := 1#32
  let arg11 : BitVec 32 := Scf.iv c0_i32_99 c1_i32_101 k0_t8
  let c256_i32_107 : BitVec 32 := 256#32
  let v368 : BitVec 32 := Scalar.muli arg11 c256_i32_107
  v368
def k0_off20 (k0_t1 : Fin k0_t1_loop.trips) (k0_t8 : Fin (k0_t8_loop k0_t1).trips) : Fin 3 → Nat :=
  let c0_108 : Index := 0#32
  let c0_i32_99 : BitVec 32 := 0#32
  let c1_i32_101 : BitVec 32 := 1#32
  let arg11 : BitVec 32 := Scf.iv c0_i32_99 c1_i32_101 k0_t8
  let c256_i32_107 : BitVec 32 := 256#32
  let v368 : BitVec 32 := Scalar.muli arg11 c256_i32_107
  let v369 : BitVec 32 := v368
  let v370 : Index := Scalar.indexCast v369
  let c0_109 : Index := 0#32
  ![0, v370.toNat, 0]
def k0_off21 (k0_t1 : Fin k0_t1_loop.trips) (k0_t8 : Fin (k0_t8_loop k0_t1).trips) : Fin 2 → Nat :=
  let c0_113 : Index := 0#32
  let c0_i32_99 : BitVec 32 := 0#32
  let c1_i32_101 : BitVec 32 := 1#32
  let arg11 : BitVec 32 := Scf.iv c0_i32_99 c1_i32_101 k0_t8
  let c256_i32_107 : BitVec 32 := 256#32
  let v368 : BitVec 32 := Scalar.muli arg11 c256_i32_107
  let v369 : BitVec 32 := v368
  let v388 : Index := Scalar.indexCast v369
  ![0, v388.toNat]
@[reducible] def k0_t9_loop (k0_t1 : Fin k0_t1_loop.trips) : Scf.Loop 32 :=
  let c0_i32_99 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v336 : BitVec 32 := Scalar.subi v21 c0_i32_99
  let c1_i32_100 : BitVec 32 := 1#32
  let v338 : BitVec 32 := Scalar.divsi v336 c1_i32_100
  let v339 : BitVec 32 := Scalar.muli v338 c1_i32_100
  let v340 : BitVec 32 := Scalar.addi c0_i32_99 v339
  let v337 : BitVec 32 := Scalar.addi c0_i32_99 v336
  let c1_i32_102 : BitVec 32 := 1#32
  ⟨v340, v337, c1_i32_102⟩
def k0_mult13 (k0_t1 : Fin k0_t1_loop.trips) (k0_t9 : Fin (k0_t9_loop k0_t1).trips) : BitVec 32 :=
  let c0_i32_99 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v336 : BitVec 32 := Scalar.subi v21 c0_i32_99
  let c1_i32_100 : BitVec 32 := 1#32
  let v338 : BitVec 32 := Scalar.divsi v336 c1_i32_100
  let v339 : BitVec 32 := Scalar.muli v338 c1_i32_100
  let v340 : BitVec 32 := Scalar.addi c0_i32_99 v339
  let c1_i32_102 : BitVec 32 := 1#32
  let arg11 : BitVec 32 := Scf.iv v340 c1_i32_102 k0_t9
  let c256_i32_107 : BitVec 32 := 256#32
  let v368 : BitVec 32 := Scalar.muli arg11 c256_i32_107
  v368
def k0_off22 (k0_t1 : Fin k0_t1_loop.trips) (k0_t9 : Fin (k0_t9_loop k0_t1).trips) : Fin 3 → Nat :=
  let c0_108 : Index := 0#32
  let c0_i32_99 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v336 : BitVec 32 := Scalar.subi v21 c0_i32_99
  let c1_i32_100 : BitVec 32 := 1#32
  let v338 : BitVec 32 := Scalar.divsi v336 c1_i32_100
  let v339 : BitVec 32 := Scalar.muli v338 c1_i32_100
  let v340 : BitVec 32 := Scalar.addi c0_i32_99 v339
  let c1_i32_102 : BitVec 32 := 1#32
  let arg11 : BitVec 32 := Scf.iv v340 c1_i32_102 k0_t9
  let c256_i32_107 : BitVec 32 := 256#32
  let v368 : BitVec 32 := Scalar.muli arg11 c256_i32_107
  let v369 : BitVec 32 := v368
  let v370 : Index := Scalar.indexCast v369
  let c0_109 : Index := 0#32
  ![0, v370.toNat, 0]
def k0_off23 (k0_t1 : Fin k0_t1_loop.trips) (k0_t9 : Fin (k0_t9_loop k0_t1).trips) : Fin 2 → Nat :=
  let c0_113 : Index := 0#32
  let c0_i32_99 : BitVec 32 := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let c256_i32 : BitVec 32 := 256#32
  let v21 : BitVec 32 := Scalar.divsi v11 c256_i32
  let v336 : BitVec 32 := Scalar.subi v21 c0_i32_99
  let c1_i32_100 : BitVec 32 := 1#32
  let v338 : BitVec 32 := Scalar.divsi v336 c1_i32_100
  let v339 : BitVec 32 := Scalar.muli v338 c1_i32_100
  let v340 : BitVec 32 := Scalar.addi c0_i32_99 v339
  let c1_i32_102 : BitVec 32 := 1#32
  let arg11 : BitVec 32 := Scf.iv v340 c1_i32_102 k0_t9
  let c256_i32_107 : BitVec 32 := 256#32
  let v368 : BitVec 32 := Scalar.muli arg11 c256_i32_107
  let v369 : BitVec 32 := v368
  let v388 : Index := Scalar.indexCast v369
  ![0, v388.toNat]
def k0_off24 (k0_t1 : Fin k0_t1_loop.trips) : Fin 3 → Nat :=
  let c0_106 : Index := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let v364 : Index := Scalar.indexCast v11
  let c384 : Index := 384#32
  ![0, v364.toNat, 384]
def k0_off25 (k0_t1 : Fin k0_t1_loop.trips) : Fin 3 → Nat :=
  let c0_7 : Index := 0#32
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let v19 : Index := Scalar.indexCast v11
  let c0_8 : Index := 0#32
  ![0, v19.toNat, 0]
def k0_cond1 (v1 : BitVec 32) (k0_t1 : Fin k0_t1_loop.trips) : BitVec 1 :=
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let v12 : BitVec 1 := Scalar.cmpi .slt v11 v1
  let v13 : BitVec 32 := Scalar.extui v12
  let c0_i32_5 : BitVec 32 := 0#32
  let v14 : BitVec 1 := Scalar.cmpi .ne v13 c0_i32_5
  v14

def k0_cond2 (v1 : BitVec 32) (k0_t1 : Fin k0_t1_loop.trips) : BitVec 1 :=
  let c0_i32 : BitVec 32 := 0#32
  let c1_i32 : BitVec 32 := 1#32
  let arg10 : BitVec 32 := Scf.iv c0_i32 c1_i32 k0_t1
  let c128_i32 : BitVec 32 := 128#32
  let v10 : BitVec 32 := Scalar.muli arg10 c128_i32
  let v11 : BitVec 32 := v10
  let v15 : BitVec 1 := Scalar.cmpi .sge v11 v1
  let v16 : BitVec 32 := Scalar.extui v15
  let c0_i32_6 : BitVec 32 := 0#32
  let v17 : BitVec 1 := Scalar.cmpi .ne v16 c0_i32_6
  v17

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x64 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x64 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S9x4096x512 : Shape := ⟨3, ![9, 4096, 512]⟩
abbrev S9x4096x64 : Shape := ⟨3, ![9, 4096, 64]⟩
abbrev S8 : Shape := ⟨1, ![8]⟩
abbrev S1 : Shape := ⟨1, ![1]⟩
abbrev S9 : Shape := ⟨1, ![9]⟩
abbrev S9x32768x64 : Shape := ⟨3, ![9, 32768, 64]⟩
abbrev S9x32768x4096 : Shape := ⟨3, ![9, 32768, 4096]⟩
abbrev S9x4096x8x4096 : Shape := ⟨4, ![9, 4096, 8, 4096]⟩
abbrev S1x1x8x1 : Shape := ⟨4, ![1, 1, 8, 1]⟩
abbrev S9x4096x8 : Shape := ⟨3, ![9, 4096, 8]⟩
abbrev S9x4096x8x1 : Shape := ⟨4, ![9, 4096, 8, 1]⟩
abbrev S1x1x1 : Shape := ⟨3, ![1, 1, 1]⟩
abbrev S9x1x1 : Shape := ⟨3, ![9, 1, 1]⟩

abbrev nBuf : Space → Nat
  | .hbm => 8
  | .vmem => 8
  | .smem => 0
  | _ => 0

abbrev bufTy : (tb : Table) → Fin (tcTables nBuf tb) → BufTy
  | .hbm, ⟨0, _⟩ => ⟨S9x4096x512, .fp8e4m3⟩
  | .hbm, ⟨1, _⟩ => ⟨S9x4096x64, .fp8e4m3⟩
  | .hbm, ⟨2, _⟩ => ⟨S9x4096x64, .fp8e4m3⟩
  | .hbm, ⟨3, _⟩ => ⟨S8, .f32⟩
  | .hbm, ⟨4, _⟩ => ⟨S1, .f32⟩
  | .hbm, ⟨5, _⟩ => ⟨S1, .f32⟩
  | .hbm, ⟨6, _⟩ => ⟨S9, .i32⟩
  | .hbm, ⟨7, _⟩ => ⟨S9x4096x512, .bf16⟩
  | .local _ .vmem, ⟨0, _⟩ => ⟨S9x4096x512, .fp8e4m3⟩
  | .local _ .vmem, ⟨1, _⟩ => ⟨S9x4096x64, .fp8e4m3⟩
  | .local _ .vmem, ⟨2, _⟩ => ⟨S9x4096x64, .fp8e4m3⟩
  | .local _ .vmem, ⟨3, _⟩ => ⟨S8, .f32⟩
  | .local _ .vmem, ⟨4, _⟩ => ⟨S1, .f32⟩
  | .local _ .vmem, ⟨5, _⟩ => ⟨S1, .f32⟩
  | .local _ .vmem, ⟨6, _⟩ => ⟨S9, .i32⟩
  | .local _ .vmem, ⟨7, _⟩ => ⟨S9x4096x512, .bf16⟩
  | _, _ => ⟨S9x4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S9x4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x4096x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x4096x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x4096x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRuns.lean ====
/- The launch side of `Kernel`'s run: what the region is entered with (the memory as launched, the lengths table), the windows'
   blocks, the frame claim read off the pipeline's post, and the memrefs the body is handed at a grid point. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S9 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 5 rfl).trans ((hA c 5).trans (V_main_arg2 m c)),
      (Pipeline.RDat.FramePost.arr_in h c 0 rfl).trans ((hA c 0).trans (V_main_arg3 m c)),
      (Pipeline.RDat.FramePost.arr_in h c 1 rfl).trans ((hA c 1).trans (V_main_arg4 m c)),
      (Pipeline.RDat.FramePost.arr_in h c 2 rfl).trans ((hA c 2).trans (V_main_arg5 m c)),
      ((h c).2 main_arg6 (by decide : main_arg6 ∈ Pipeline.restRefs sig spec0)).trans (V_main_arg6 m c)⟩) h

/-! ## No window is idle at a point -/

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Window 2 is never idle (an input). -/
theorem liveAt0_2 (hO : Ok m) : ∀ t : Fin (cfgM m hO).N, (cfgM m hO).idle 2 (grid0.coords t) = false :=
  fun _ => rfl
/-- Window 3 is never idle (an input). -/
theorem liveAt0_3 (hO : Ok m) : ∀ t : Fin (cfgM m hO).N, (cfgM m hO).idle 3 (grid0.coords t) = false :=
  fun _ => rfl
/-- Window 4 is never idle (an input). -/
theorem liveAt0_4 (hO : Ok m) : ∀ t : Fin (cfgM m hO).N, (cfgM m hO).idle 4 (grid0.coords t) = false :=
  fun _ => rfl
/-- Window 5 is never idle (an input). -/
theorem liveAt0_5 (hO : Ok m) : ∀ t : Fin (cfgM m hO).N, (cfgM m hO).idle 5 (grid0.coords t) = false :=
  fun _ => rfl
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S8 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .smem S1 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x4096x512 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x4096x64 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x4096x64 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x4096x512 .bf16 := spec0_6.stage ((cfgM m hO).slots t 6)
abbrev hs0_6 (hO : Ok m) (t : Fin (cfgM m hO).N) : (ms0_6 m hO t).IsWhole := hstage0_6 (((cfgM m hO).slots t 6).cast nbuf0_6)
/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_prefill_attention (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _)
/-- The scratch operands: whole scoped buffers of the kernel's own, passed beside the windows. -/
abbrev scM0_0 : Memref sig .tc .vmem S64x4096 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Run

end
-- ==== Proof.KernelTrip.lean ====
/- One trip of `Kernel`'s loop over query blocks, and the loop by its invariant: the inputs and the transposed values are read, the
   output's buffer is written. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What one trip touches: the scales, the queries, the keys and the transposed values at their contents, the output's buffer at
    contents `f`. -/
abbrev Res (c : Dev nD) (arg1 : Memref sig .tc .smem S9 .i32) (harg1 : arg1.IsWhole) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X9 : BufTy.Contents (Elt F) arg9.view.ty) (f : BufTy.Contents (Elt F) arg8.view.ty) : sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg8.view.loc (c : Thread nD τ) ↦[arg8.view.set]{fullShare} f))

set_option maxHeartbeats 4000000 in
/-- One trip runs from any contents of the output's buffer, in each case of its two conditions, and leaves what it reads as it was. -/
theorem trip (c : Dev nD) (E : Set ℕ) (i : grid0.Coords) (arg1 : Memref sig .tc .smem S9 .i32) (harg1 : arg1.IsWhole) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (v1 : Elt F .i32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X9 : BufTy.Contents (Elt F) arg9.view.ty) (f : BufTy.Contents (Elt F) arg8.view.ty) (k : Fin k0_t1_loop.trips) :
    Res (F := F) c arg1 harg1 arg2 harg2 arg3 harg3 arg4 harg4 arg5 harg5 arg6 harg6 arg7 harg7 arg8 harg8 arg9 harg9 X2 X3 X4 X5 X6 X9 f
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 v1 k ())
          (fun _ => iprop(∃ f', Res (F := F) c arg1 harg1 arg2 harg2 arg3 harg3 arg4 harg4 arg5 harg5 arg6 harg6 arg7 harg7 arg8 harg8 arg9 harg9 X2 X3 X4 X5 X6 X9 f')) := by
  unfold k0_t1_body
  by_cases h1 : k0_cond1 v1 k = 1#1
  · by_cases h2 : k0_cond2 v1 k = 1#1
    · iintro ⟨H2, H3, H4, H5, H6, H9, H8⟩
      sl_exec
      sl_step
      iexists _
      unfold Res
      isplitl [H2]; · iexact H2
      isplitl [H3]; · iexact H3
      isplitl [H4]; · iexact H4
      isplitl [H5]; · iexact H5
      isplitl [H6]; · iexact H6
      isplitl [H9]; · iexact H9
      iexact H8
    · iintro ⟨H2, H3, H4, H5, H6, H9, H8⟩
      sl_exec
      sl_step
      iexists _
      unfold Res
      isplitl [H2]; · iexact H2
      isplitl [H3]; · iexact H3
      isplitl [H4]; · iexact H4
      isplitl [H5]; · iexact H5
      isplitl [H6]; · iexact H6
      isplitl [H9]; · iexact H9
      iexact H8
  · by_cases h2 : k0_cond2 v1 k = 1#1
    · iintro ⟨H2, H3, H4, H5, H6, H9, H8⟩
      sl_exec
      sl_step
      iexists _
      unfold Res
      isplitl [H2]; · iexact H2
      isplitl [H3]; · iexact H3
      isplitl [H4]; · iexact H4
      isplitl [H5]; · iexact H5
      isplitl [H6]; · iexact H6
      isplitl [H9]; · iexact H9
      iexact H8
    · iintro ⟨H2, H3, H4, H5, H6, H9, H8⟩
      sl_exec
      sl_step
      iexists _
      unfold Res
      isplitl [H2]; · iexact H2
      isplitl [H3]; · iexact H3
      isplitl [H4]; · iexact H4
      isplitl [H5]; · iexact H5
      isplitl [H6]; · iexact H6
      isplitl [H9]; · iexact H9
      iexact H8

set_option warn.classDefReducibility false in
/-- The loop over query blocks, by its invariant: what it reads is as it was, the output's buffer holds something. -/
@[sl_loop] def loopInv (c : Dev nD) (E : Set ℕ) (i : grid0.Coords) (arg1 : Memref sig .tc .smem S9 .i32) (harg1 : arg1.IsWhole) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (v1 : Elt F .i32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X9 : BufTy.Contents (Elt F) arg9.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 v1 where
  inv _ _ := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (∃ f, arg8.view.loc (c : Thread nD τ) ↦[arg8.view.set]{fullShare} f))
  step k _ := by
    iintro ⟨H2, H3, H4, H5, H6, H9, ⟨%f, H8⟩⟩
    iapply (wp_wand_r Idealize.ShloMosaic.frame (wpE (defs₀ (F := F)) Variants.none (c : Thread nD τ) none) E)
    isplitl [H2 H3 H4 H5 H6 H9 H8]
    · iapply (trip c E i arg1 harg1 arg2 harg2 arg3 harg3 arg4 harg4 arg5 harg5 arg6 harg6 arg7 harg7 arg8 harg8 arg9 harg9 v1 X2 X3 X4 X5 X6 X9 f k)
      unfold Res
      isplitl [H2]; · iexact H2
      isplitl [H3]; · iexact H3
      isplitl [H4]; · iexact H4
      isplitl [H5]; · iexact H5
      isplitl [H6]; · iexact H6
      isplitl [H9]; · iexact H9
      iexact H8
    · iintro %_ ⟨%f', H2, H3, H4, H5, H6, H9, H8⟩
      isplitl [H2]; · iexact H2
      isplitl [H3]; · iexact H3
      isplitl [H4]; · iexact H4
      isplitl [H5]; · iexact H5
      isplitl [H6]; · iexact H6
      isplitl [H9]; · iexact H9
      iexists f'
      iexact H8

end Cert.Kernel.Run

end
-- ==== Proof.KernelBody.lean ====
/- `Kernel`'s body on whole staging buffers: it runs to the end and leaves its inputs as they were. -/
module

public import proofs.«01_k».proof.Proof.KernelTrip

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole)
    (x0 : Vec F S8 .f32) (x1 : Vec F S1 .f32) (x2 : Vec F S1 .f32) (x3 : Vec F S1x4096x512 .fp8e4m3) (x4 : Vec F S1x4096x64 .fp8e4m3) (x5 : Vec F S1x4096x64 .fp8e4m3) (xt0 : TbBuf0 (F := F) c tbM0_0) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ tbPt0 c tbM0_0 xt0) -∗ K ⟨⟩))
          ⊢ wp frame (wpE (defs₀ (F := F)) Variants.none c none) E (cc0_prefill_attention i tbM0_0 htbM0_0 arg2 harg2 arg3 harg3 arg4 harg4 arg5 harg5 arg6 harg6 arg7 harg7 arg8 harg8 arg9 harg9) K := by
    intro E K
    simp only [cc0_prefill_attention_eq_skeleton]; unfold cc0_prefill_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    iexact HT0

end Cert.Kernel.Run

end
-- ==== Proof.KernelFrame.lean ====
/- `Kernel`'s frame: the pipeline's proof data with the output forgotten, the body obligation at every point, the run, the claim. -/
module

public import proofs.«01_k».proof.Proof.KernelBody
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (∃ d, owns (c : Thread nD τ) (ms0_6 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
      unfold Dat.leavesExact; rw [liveAt0_0 m hO t]; try rfl, after0_0]
  rw [show (dats m hO 0 c).leavesExact 1 t = owns (c : Thread nD τ) (ms0_1 m hO t) fullShare ((dats m hO 0 c).after 1 t) from by
      unfold Dat.leavesExact; rw [liveAt0_1 m hO t]; try rfl, after0_1]
  rw [show (dats m hO 0 c).leavesExact 2 t = owns (c : Thread nD τ) (ms0_2 m hO t) fullShare ((dats m hO 0 c).after 2 t) from by
      unfold Dat.leavesExact; rw [liveAt0_2 m hO t]; try rfl, after0_2]
  rw [show (dats m hO 0 c).leavesExact 3 t = owns (c : Thread nD τ) (ms0_3 m hO t) fullShare ((dats m hO 0 c).after 3 t) from by
      unfold Dat.leavesExact; rw [liveAt0_3 m hO t]; try rfl, after0_3]
  rw [show (dats m hO 0 c).leavesExact 4 t = owns (c : Thread nD τ) (ms0_4 m hO t) fullShare ((dats m hO 0 c).after 4 t) from by
      unfold Dat.leavesExact; rw [liveAt0_4 m hO t]; try rfl, after0_4]
  rw [show (dats m hO 0 c).leavesExact 5 t = owns (c : Thread nD τ) (ms0_5 m hO t) fullShare ((dats m hO 0 c).after 5 t) from by
      unfold Dat.leavesExact; rw [liveAt0_5 m hO t]; try rfl, after0_5]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk m hO c 0 t) (iblk m hO c 1 t) (iblk m hO c 2 t) (iblk m hO c 3 t) (iblk m hO c 4 t) (iblk m hO c 5 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HT0]; · iexact HT0
  iintro ⟨H0, H1, H2, H3, H4, H5, H6, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO 0 c).toRForget forgets0) (A_eq m hO) (run_main m ρ hO)

/-- THE FRAME: every run terminates, the argument arrays end unchanged, every semaphore counter is zero at the end. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel.Run

end
-- ==== Proof.KernelIdealRuns.lean ====
/- The launch side of `KernelIdeal`'s run: what the region is entered with (the memory as launched, the lengths table), the windows'
   blocks, the frame claim read off the pipeline's post, and the memrefs the body is handed at a grid point. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S9 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 5 rfl).trans ((hA c 5).trans (V_main_arg2 m c)),
      (Pipeline.RDat.FramePost.arr_in h c 0 rfl).trans ((hA c 0).trans (V_main_arg3 m c)),
      (Pipeline.RDat.FramePost.arr_in h c 1 rfl).trans ((hA c 1).trans (V_main_arg4 m c)),
      (Pipeline.RDat.FramePost.arr_in h c 2 rfl).trans ((hA c 2).trans (V_main_arg5 m c)),
      ((h c).2 main_arg6 (by decide : main_arg6 ∈ Pipeline.restRefs sig spec0)).trans (V_main_arg6 m c)⟩) h

/-! ## No window is idle at a point -/

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Window 2 is never idle (an input). -/
theorem liveAt0_2 (hO : Ok m) : ∀ t : Fin (cfgM m hO).N, (cfgM m hO).idle 2 (grid0.coords t) = false :=
  fun _ => rfl
/-- Window 3 is never idle (an input). -/
theorem liveAt0_3 (hO : Ok m) : ∀ t : Fin (cfgM m hO).N, (cfgM m hO).idle 3 (grid0.coords t) = false :=
  fun _ => rfl
/-- Window 4 is never idle (an input). -/
theorem liveAt0_4 (hO : Ok m) : ∀ t : Fin (cfgM m hO).N, (cfgM m hO).idle 4 (grid0.coords t) = false :=
  fun _ => rfl
/-- Window 5 is never idle (an input). -/
theorem liveAt0_5 (hO : Ok m) : ∀ t : Fin (cfgM m hO).N, (cfgM m hO).idle 5 (grid0.coords t) = false :=
  fun _ => rfl
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S8 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .smem S1 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x4096x512 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x4096x64 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x4096x64 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x4096x512 .bf16 := spec0_6.stage ((cfgM m hO).slots t 6)
abbrev hs0_6 (hO : Ok m) (t : Fin (cfgM m hO).N) : (ms0_6 m hO t).IsWhole := hstage0_6 (((cfgM m hO).slots t 6).cast nbuf0_6)
/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_prefill_attention (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _)
/-- The scratch operands: whole scoped buffers of the kernel's own, passed beside the windows. -/
abbrev scM0_0 : Memref sig .tc .vmem S64x4096 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Run

end
-- ==== Proof.KernelIdealPair.lean ====
/- One pair of heads at one block of queries, as a function of the blocks it reads: the running softmax over blocks of keys, and
   the four inner loops of `KernelIdeal`'s trip as that function. -/
module

public import proofs.«01_k».proof.Proof.KernelIdealRuns

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The running maximum, the running sum and the running weighted sum of values, one lane per query of the pair. -/
abbrev Acc (F : FTy → Type) : Type := FVec F S1x256 .f32 × FVec F S1x256 .f32 × FVec F S64x256 .f32

/-- The running maximum after a block of scores. -/
def stepM (s : FVec F S256x256 .f32) (m : FVec F S1x256 .f32) : FVec F S1x256 .f32 :=
  maximumf m (shapeCast S1x256 (multiReduction .maximumf [0] S256 s 0xFF800000#32 reduces_S256x256_S256 (.inl rfl) rfl)
    shapeCasts_S256_S1x256)

/-- The weights of a block of scores at the new maximum. -/
def stepP (s : FVec F S256x256 .f32) (m : FVec F S1x256 .f32) : FVec F S256x256 .f32 :=
  exp2 (subf s (broadcastTo S256x256 (stepM s m) broadcasts_S1x256_S256x256))

/-- The factor the sums so far are rescaled by. -/
def stepA (s : FVec F S256x256 .f32) (m : FVec F S1x256 .f32) : FVec F S1x256 .f32 :=
  exp2 (subf m (stepM s m))

/-- The running sum after a block of scores. -/
def stepL (s : FVec F S256x256 .f32) (m l : FVec F S1x256 .f32) : FVec F S1x256 .f32 :=
  addf (mulf l (stepA s m)) (shapeCast S1x256 (multiReduction .add [0] S256 (stepP s m) 0x00000000#32 reduces_S256x256_S256
    (.inl rfl) rfl) shapeCasts_S256_S1x256)

/-- The running weighted sum after a block of scores `s` and the transposed values `vb`. -/
def stepO (s : FVec F S256x256 .f32) (vb : Vec F S64x256 .bf16) (m : FVec F S1x256 .f32) (o : FVec F S64x256 .f32) :
    FVec F S64x256 .f32 :=
  addf (mulf o (broadcastTo S64x256 (stepA s m) broadcasts_S1x256_S64x256))
    (matmul dot_S64x256_S256x256_S64x256_1_0_0_1_n_n none vb (truncf .bf16 (stepP s m) bitsLt_bf16_f32)
      (constant S64x256 .f32 0x00000000#32))

/-- One step of the running softmax: a block of scores and of transposed values. -/
def stepS (s : FVec F S256x256 .f32) (vb : Vec F S64x256 .bf16) (a : Acc F) : Acc F :=
  (stepM s a.1, stepL s a.1 a.2.1, stepO s vb a.1 a.2.2)

/-- The scores of the pair's queries `q` at a block of keys, scaled by `cc`. -/
def score (q : FVec F S256x64 .fp8e4m3) (cc : FVec F S1x256 .f32) (kb : Vec F S1x256x64 .fp8e4m3) : FVec F S256x256 .f32 :=
  k0_pay32 q cc kb

/-- The scores at the block of keys that holds the diagonal: keys after the query are at minus infinity. -/
def scoreD (w : BitVec 32) (q : FVec F S256x64 .fp8e4m3) (cc : FVec F S1x256 .f32) (kb : Vec F S1x256x64 .fp8e4m3) :
    FVec F S256x256 .f32 :=
  select (k0_pay25 w) (score q cc kb) (broadcast S256x256 (Scalar.ofBits .f32 0xFF800000#32))

/-- The state after the diagonal block. -/
def run0 (w : BitVec 32) (q : FVec F S256x64 .fp8e4m3) (cc : FVec F S1x256 .f32) (kd : Vec F S1x256x64 .fp8e4m3)
    (vd : Vec F S64x256 .bf16) : Acc F :=
  stepS (scoreD w q cc kd) vd ((k0_pay21 : FVec F S1x256 .f32), (k0_pay22 : FVec F S1x256 .f32), (k0_pay23 : FVec F S64x256 .f32))

/-- The state after `n` further blocks, from `a`. -/
def runN (q : FVec F S256x64 .fp8e4m3) (cc : FVec F S1x256 .f32) (kb : ℕ → Vec F S1x256x64 .fp8e4m3)
    (vb : ℕ → Vec F S64x256 .bf16) (a : Acc F) : ℕ → Acc F
  | 0 => a
  | n + 1 => stepS (score q cc (kb n)) (vb n) (runN q cc kb vb a n)

/-- What the pair stores: the weighted sums over the sums, at the rows the length covers. -/
def pairOut (v1 w : BitVec 32) (q : FVec F S256x64 .fp8e4m3) (cc : FVec F S1x256 .f32) (kd : Vec F S1x256x64 .fp8e4m3)
    (vd : Vec F S64x256 .bf16) (kb : ℕ → Vec F S1x256x64 .fp8e4m3) (vb : ℕ → Vec F S64x256 .bf16) (n : ℕ) (vs : Elt F .f32) :
    FVec F S1x128x128 .bf16 :=
  k0_pay45 (k0_pay44 v1 w (runN q cc kb vb (run0 w q cc kd vd) n).2.1 (runN q cc kb vb (run0 w q cc kd vd) n).2.2 vs)

/-- The first query of block `k`, as the kernel computes it. -/
abbrev q0w (k : Fin k0_t1_loop.trips) : BitVec 32 := Scalar.muli (Scf.iv 0#32 1#32 k) 128#32

/-- A block of 256 keys lies inside the keys. -/
theorem kblk_inb (j : ℕ) : ∀ a, (![0, 256 * (j % 16), 0] : Fin 3 → ℕ) a + S1x256x64.size a ≤ S1x4096x64.size a := by
  intro a; fin_cases a <;> simp [S1x256x64, S1x4096x64] <;> omega

/-- A block of 256 values lies inside the transposed values. -/
theorem vblk_inb (j : ℕ) : ∀ a, (![0, 256 * (j % 16)] : Fin 2 → ℕ) a + S64x256.size a ≤ S64x4096.size a := by
  intro a; fin_cases a <;> simp [S64x256, S64x4096] <;> omega

/-- Block `j` of the keys' buffer. -/
def kblk (arg6 : Memref sig .tc .vmem S1x4096x64 .fp8e4m3) (X6 : BufTy.Contents (Elt F) arg6.view.ty) (j : ℕ) : Vec F S1x256x64 .fp8e4m3 :=
  View.readAt (Elt F) arg6.view (Rect.unit (s := S1x4096x64) ![0, 256 * (j % 16), 0] S1x256x64.size (kblk_inb j)).toLoadRect X6

/-- Block `j` of the transposed values' buffer. -/
def vblk (arg9 : Memref sig .tc .vmem S64x4096 .bf16) (X9 : BufTy.Contents (Elt F) arg9.view.ty) (j : ℕ) : Vec F S64x256 .bf16 :=
  View.readAt (Elt F) arg9.view (Rect.unit (s := S64x4096) ![0, 256 * (j % 16)] S64x256.size (vblk_inb j)).toLoadRect X9

/-- A rectangle is its offsets. -/
theorem readAt_unit_congr {sp : Space} {s t : Shape} {e : EltTy} (mr : Memref sig .tc sp s e) (X : BufTy.Contents (Elt F) mr.view.ty)
    (o o' : Fin s.rank → ℕ) (sz : Fin s.rank → ℕ) (h : o = o') (hi : ∀ a, o a + sz a ≤ s.size a) (hi' : ∀ a, o' a + sz a ≤ s.size a) :
    View.readAt (Elt F) mr.view (Rect.unit (s := s) o sz hi).toLoadRect X = View.readAt (Elt F) mr.view (Rect.unit (s := s) o' sz hi').toLoadRect X := by
  subst h; rfl

/-! ### The loop `k0_t2` -/

/-- The blocks before the diagonal one are `k / 2` in number. -/
theorem trips_t2 : ∀ k : Fin k0_t1_loop.trips, (k0_t2_loop k).trips = k.val / 2 := by decide +kernel
/-- The remainder loop makes no trip. -/
theorem trips_t3 : ∀ k : Fin k0_t1_loop.trips, (k0_t3_loop k).trips = 0 := by decide +kernel
/-- Trip `j` reads key block `j`. -/
theorem off_k_t2 : ∀ (k : Fin k0_t1_loop.trips) (j : Fin (k0_t2_loop k).trips), k0_off5 k j = ![0, 256 * (j.val % 16), 0] := by decide +kernel
/-- Trip `j` reads value block `j`. -/
theorem off_v_t2 : ∀ (k : Fin k0_t1_loop.trips) (j : Fin (k0_t2_loop k).trips), k0_off6 k j = ![0, 256 * (j.val % 16)] := by decide +kernel

/-- The carried state of the loop is the running softmax over the blocks of keys. -/
theorem st_t2 (𝒱 : Variants) (c : Dev nD) (bd : Option 𝒱.V) (i : grid0.Coords) (arg1 : Memref sig .tc .smem S9 .i32) (harg1 : arg1.IsWhole) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (v1 : Elt F .i32) (k0_t1 : Fin k0_t1_loop.trips) (v11 : BitVec 32) (v21 : BitVec 32) (v30 : FVec F S256x64 .fp8e4m3) (v45 : FVec F S1x256 .f32) (v46 : FVec F S1x256 .f32) (v47 : FVec F S1x256 .f32) (v48 : FVec F S64x256 .f32) (v50 : BitVec 32) (v56 : FVec F S256x256 .f32) (v59 : IVec S256x256 1) (cst_21 : F .f32) (X_arg6 : BufTy.Contents (Elt F) arg6.view.ty) (X_arg9 : BufTy.Contents (Elt F) arg9.view.ty) (init : FVec F S1x256 .f32 × FVec F S1x256 .f32 × FVec F S64x256 .f32) (n : ℕ) (hn : n ≤ (k0_t2_loop k0_t1).trips) :
    st_k0_t2 (F := F) 𝒱 c bd i arg1 harg1 arg2 harg2 arg3 harg3 arg4 harg4 arg5 harg5 arg6 harg6 arg7 harg7 arg8 harg8 arg9 harg9 v1 k0_t1 v11 v21 v30 v45 v46 v47 v48 v50 v56 v59 cst_21 X_arg6 X_arg9 init n = runN v30 v45 (kblk arg6 X_arg6) (vblk arg9 X_arg9) init n := by
  induction n with
  | zero => rfl
  | succ n ih =>
    have h : n < (k0_t2_loop k0_t1).trips := hn
    have e := st_k0_t2_succ (F := F) 𝒱 c bd i arg1 harg1 arg2 harg2 arg3 harg3 arg4 harg4 arg5 harg5 arg6 harg6 arg7 harg7 arg8 harg8 arg9 harg9 v1 k0_t1 v11 v21 v30 v45 v46 v47 v48 v50 v56 v59 cst_21 X_arg6 X_arg9 init ⟨n, h⟩
    have t : ∀ a, (trip_k0_t2 (F := F) 𝒱 c bd i arg1 harg1 arg2 harg2 arg3 harg3 arg4 harg4 arg5 harg5 arg6 harg6 arg7 harg7 arg8 harg8 arg9 harg9 v1 k0_t1 v11 v21 v30 v45 v46 v47 v48 v50 v56 v59 cst_21 X_arg6 X_arg9 ⟨n, h⟩).1 a = stepS (score v30 v45 (View.readAt (Elt F) arg6.view (Rect.unit (s := S1x4096x64) (k0_off5 k0_t1 ⟨n, h⟩) S1x256x64.size (k0_off5_inb k0_t1 ⟨n, h⟩)).toLoadRect X_arg6))
        (View.readAt (Elt F) arg9.view (Rect.unit (s := S64x4096) (k0_off6 k0_t1 ⟨n, h⟩) S64x256.size (k0_off6_inb k0_t1 ⟨n, h⟩)).toLoadRect X_arg9) a := by
      intro a; unfold trip_k0_t2; rfl
    rw [readAt_unit_congr (t := S1x256x64) arg6 X_arg6 _ _ _ (off_k_t2 k0_t1 ⟨n, h⟩) _ (kblk_inb n),
      readAt_unit_congr (t := S64x256) arg9 X_arg9 _ _ _ (off_v_t2 k0_t1 ⟨n, h⟩) _ (vblk_inb n)] at t
    exact (e.trans (t _)).trans (congrArg (stepS (score v30 v45 (kblk arg6 X_arg6 n)) (vblk arg9 X_arg9 n)) (ih (by omega)))

/-! ### The loop `k0_t4` -/

/-- The blocks before the diagonal one are `k / 2` in number. -/
theorem trips_t4 : ∀ k : Fin k0_t1_loop.trips, (k0_t4_loop k).trips = k.val / 2 := by decide +kernel
/-- The remainder loop makes no trip. -/
theorem trips_t5 : ∀ k : Fin k0_t1_loop.trips, (k0_t5_loop k).trips = 0 := by decide +kernel
/-- Trip `j` reads key block `j`. -/
theorem off_k_t4 : ∀ (k : Fin k0_t1_loop.trips) (j : Fin (k0_t4_loop k).trips), k0_off10 k j = ![0, 256 * (j.val % 16), 0] := by decide +kernel
/-- Trip `j` reads value block `j`. -/
theorem off_v_t4 : ∀ (k : Fin k0_t1_loop.trips) (j : Fin (k0_t4_loop k).trips), k0_off11 k j = ![0, 256 * (j.val % 16)] := by decide +kernel

/-- The carried state of the loop is the running softmax over the blocks of keys. -/
theorem st_t4 (𝒱 : Variants) (c : Dev nD) (bd : Option 𝒱.V) (i : grid0.Coords) (arg1 : Memref sig .tc .smem S9 .i32) (harg1 : arg1.IsWhole) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (v1 : Elt F .i32) (k0_t1 : Fin k0_t1_loop.trips) (v11 : BitVec 32) (v21 : BitVec 32) (v115 : FVec F S256x64 .fp8e4m3) (v130 : FVec F S1x256 .f32) (v131 : FVec F S1x256 .f32) (v132 : FVec F S1x256 .f32) (v133 : FVec F S64x256 .f32) (v135 : BitVec 32) (v146 : FVec F S256x256 .f32) (v149 : FVec F S1x256 .f32) (v150 : FVec F S256x256 .f32) (X_arg6 : BufTy.Contents (Elt F) arg6.view.ty) (X_arg9 : BufTy.Contents (Elt F) arg9.view.ty) (init : FVec F S1x256 .f32 × FVec F S1x256 .f32 × FVec F S64x256 .f32) (n : ℕ) (hn : n ≤ (k0_t4_loop k0_t1).trips) :
    st_k0_t4 (F := F) 𝒱 c bd i arg1 harg1 arg2 harg2 arg3 harg3 arg4 harg4 arg5 harg5 arg6 harg6 arg7 harg7 arg8 harg8 arg9 harg9 v1 k0_t1 v11 v21 v115 v130 v131 v132 v133 v135 v146 v149 v150 X_arg6 X_arg9 init n = runN v115 v130 (kblk arg6 X_arg6) (vblk arg9 X_arg9) init n := by
  induction n with
  | zero => rfl
  | succ n ih =>
    have h : n < (k0_t4_loop k0_t1).trips := hn
    have e := st_k0_t4_succ (F := F) 𝒱 c bd i arg1 harg1 arg2 harg2 arg3 harg3 arg4 harg4 arg5 harg5 arg6 harg6 arg7 harg7 arg8 harg8 arg9 harg9 v1 k0_t1 v11 v21 v115 v130 v131 v132 v133 v135 v146 v149 v150 X_arg6 X_arg9 init ⟨n, h⟩
    have t : ∀ a, (trip_k0_t4 (F := F) 𝒱 c bd i arg1 harg1 arg2 harg2 arg3 harg3 arg4 harg4 arg5 harg5 arg6 harg6 arg7 harg7 arg8 harg8 arg9 harg9 v1 k0_t1 v11 v21 v115 v130 v131 v132 v133 v135 v146 v149 v150 X_arg6 X_arg9 ⟨n, h⟩).1 a = stepS (score v115 v130 (View.readAt (Elt F) arg6.view (Rect.unit (s := S1x4096x64) (k0_off10 k0_t1 ⟨n, h⟩) S1x256x64.size (k0_off10_inb k0_t1 ⟨n, h⟩)).toLoadRect X_arg6))
        (View.readAt (Elt F) arg9.view (Rect.unit (s := S64x4096) (k0_off11 k0_t1 ⟨n, h⟩) S64x256.size (k0_off11_inb k0_t1 ⟨n, h⟩)).toLoadRect X_arg9) a := by
      intro a; unfold trip_k0_t4; rfl
    rw [readAt_unit_congr (t := S1x256x64) arg6 X_arg6 _ _ _ (off_k_t4 k0_t1 ⟨n, h⟩) _ (kblk_inb n),
      readAt_unit_congr (t := S64x256) arg9 X_arg9 _ _ _ (off_v_t4 k0_t1 ⟨n, h⟩) _ (vblk_inb n)] at t
    exact (e.trans (t _)).trans (congrArg (stepS (score v115 v130 (kblk arg6 X_arg6 n)) (vblk arg9 X_arg9 n)) (ih (by omega)))

/-! ### The loop `k0_t6` -/

/-- The blocks before the diagonal one are `k / 2` in number. -/
theorem trips_t6 : ∀ k : Fin k0_t1_loop.trips, (k0_t6_loop k).trips = k.val / 2 := by decide +kernel
/-- The remainder loop makes no trip. -/
theorem trips_t7 : ∀ k : Fin k0_t1_loop.trips, (k0_t7_loop k).trips = 0 := by decide +kernel
/-- Trip `j` reads key block `j`. -/
theorem off_k_t6 : ∀ (k : Fin k0_t1_loop.trips) (j : Fin (k0_t6_loop k).trips), k0_off15 k j = ![0, 256 * (j.val % 16), 0] := by decide +kernel
/-- Trip `j` reads value block `j`. -/
theorem off_v_t6 : ∀ (k : Fin k0_t1_loop.trips) (j : Fin (k0_t6_loop k).trips), k0_off16 k j = ![0, 256 * (j.val % 16)] := by decide +kernel

/-- The carried state of the loop is the running softmax over the blocks of keys. -/
theorem st_t6 (𝒱 : Variants) (c : Dev nD) (bd : Option 𝒱.V) (i : grid0.Coords) (arg1 : Memref sig .tc .smem S9 .i32) (harg1 : arg1.IsWhole) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (v1 : Elt F .i32) (k0_t1 : Fin k0_t1_loop.trips) (v11 : BitVec 32) (v20 : FVec F S128x512 .fp8e4m3) (v21 : BitVec 32) (v200 : FVec F S256x64 .fp8e4m3) (v215 : FVec F S1x256 .f32) (v218 : FVec F S64x256 .f32) (v220 : BitVec 32) (v234 : FVec F S1x256 .f32) (v237 : FVec F S256x256 .f32) (v239 : FVec F S1x256 .f32) (v240 : FVec F S1x256 .f32) (v241 : FVec F S256 .f32) (X_arg6 : BufTy.Contents (Elt F) arg6.view.ty) (X_arg9 : BufTy.Contents (Elt F) arg9.view.ty) (init : FVec F S1x256 .f32 × FVec F S1x256 .f32 × FVec F S64x256 .f32) (n : ℕ) (hn : n ≤ (k0_t6_loop k0_t1).trips) :
    st_k0_t6 (F := F) 𝒱 c bd i arg1 harg1 arg2 harg2 arg3 harg3 arg4 harg4 arg5 harg5 arg6 harg6 arg7 harg7 arg8 harg8 arg9 harg9 v1 k0_t1 v11 v20 v21 v200 v215 v218 v220 v234 v237 v239 v240 v241 X_arg6 X_arg9 init n = runN v200 v215 (kblk arg6 X_arg6) (vblk arg9 X_arg9) init n := by
  induction n with
  | zero => rfl
  | succ n ih =>
    have h : n < (k0_t6_loop k0_t1).trips := hn
    have e := st_k0_t6_succ (F := F) 𝒱 c bd i arg1 harg1 arg2 harg2 arg3 harg3 arg4 harg4 arg5 harg5 arg6 harg6 arg7 harg7 arg8 harg8 arg9 harg9 v1 k0_t1 v11 v20 v21 v200 v215 v218 v220 v234 v237 v239 v240 v241 X_arg6 X_arg9 init ⟨n, h⟩
    have t : ∀ a, (trip_k0_t6 (F := F) 𝒱 c bd i arg1 harg1 arg2 harg2 arg3 harg3 arg4 harg4 arg5 harg5 arg6 harg6 arg7 harg7 arg8 harg8 arg9 harg9 v1 k0_t1 v11 v20 v21 v200 v215 v218 v220 v234 v237 v239 v240 v241 X_arg6 X_arg9 ⟨n, h⟩).1 a = stepS (score v200 v215 (View.readAt (Elt F) arg6.view (Rect.unit (s := S1x4096x64) (k0_off15 k0_t1 ⟨n, h⟩) S1x256x64.size (k0_off15_inb k0_t1 ⟨n, h⟩)).toLoadRect X_arg6))
        (View.readAt (Elt F) arg9.view (Rect.unit (s := S64x4096) (k0_off16 k0_t1 ⟨n, h⟩) S64x256.size (k0_off16_inb k0_t1 ⟨n, h⟩)).toLoadRect X_arg9) a := by
      intro a; unfold trip_k0_t6; rfl
    rw [readAt_unit_congr (t := S1x256x64) arg6 X_arg6 _ _ _ (off_k_t6 k0_t1 ⟨n, h⟩) _ (kblk_inb n),
      readAt_unit_congr (t := S64x256) arg9 X_arg9 _ _ _ (off_v_t6 k0_t1 ⟨n, h⟩) _ (vblk_inb n)] at t
    exact (e.trans (t _)).trans (congrArg (stepS (score v200 v215 (kblk arg6 X_arg6 n)) (vblk arg9 X_arg9 n)) (ih (by omega)))

/-! ### The loop `k0_t8` -/

/-- The blocks before the diagonal one are `k / 2` in number. -/
theorem trips_t8 : ∀ k : Fin k0_t1_loop.trips, (k0_t8_loop k).trips = k.val / 2 := by decide +kernel
/-- The remainder loop makes no trip. -/
theorem trips_t9 : ∀ k : Fin k0_t1_loop.trips, (k0_t9_loop k).trips = 0 := by decide +kernel
/-- Trip `j` reads key block `j`. -/
theorem off_k_t8 : ∀ (k : Fin k0_t1_loop.trips) (j : Fin (k0_t8_loop k).trips), k0_off20 k j = ![0, 256 * (j.val % 16), 0] := by decide +kernel
/-- Trip `j` reads value block `j`. -/
theorem off_v_t8 : ∀ (k : Fin k0_t1_loop.trips) (j : Fin (k0_t8_loop k).trips), k0_off21 k j = ![0, 256 * (j.val % 16)] := by decide +kernel

/-- The carried state of the loop is the running softmax over the blocks of keys. -/
theorem st_t8 (𝒱 : Variants) (c : Dev nD) (bd : Option 𝒱.V) (i : grid0.Coords) (arg1 : Memref sig .tc .smem S9 .i32) (harg1 : arg1.IsWhole) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (k0_t1 : Fin k0_t1_loop.trips) (v285 : FVec F S256x64 .fp8e4m3) (v300 : FVec F S1x256 .f32) (X_arg6 : BufTy.Contents (Elt F) arg6.view.ty) (X_arg9 : BufTy.Contents (Elt F) arg9.view.ty) (init : FVec F S1x256 .f32 × FVec F S1x256 .f32 × FVec F S64x256 .f32) (n : ℕ) (hn : n ≤ (k0_t8_loop k0_t1).trips) :
    st_k0_t8 (F := F) 𝒱 c bd i arg1 harg1 arg2 harg2 arg3 harg3 arg4 harg4 arg5 harg5 arg6 harg6 arg7 harg7 arg8 harg8 arg9 harg9 k0_t1 v285 v300 X_arg6 X_arg9 init n = runN v285 v300 (kblk arg6 X_arg6) (vblk arg9 X_arg9) init n := by
  induction n with
  | zero => rfl
  | succ n ih =>
    have h : n < (k0_t8_loop k0_t1).trips := hn
    have e := st_k0_t8_succ (F := F) 𝒱 c bd i arg1 harg1 arg2 harg2 arg3 harg3 arg4 harg4 arg5 harg5 arg6 harg6 arg7 harg7 arg8 harg8 arg9 harg9 k0_t1 v285 v300 X_arg6 X_arg9 init ⟨n, h⟩
    have t : ∀ a, (trip_k0_t8 (F := F) 𝒱 c bd i arg1 harg1 arg2 harg2 arg3 harg3 arg4 harg4 arg5 harg5 arg6 harg6 arg7 harg7 arg8 harg8 arg9 harg9 k0_t1 v285 v300 X_arg6 X_arg9 ⟨n, h⟩).1 a = stepS (score v285 v300 (View.readAt (Elt F) arg6.view (Rect.unit (s := S1x4096x64) (k0_off20 k0_t1 ⟨n, h⟩) S1x256x64.size (k0_off20_inb k0_t1 ⟨n, h⟩)).toLoadRect X_arg6))
        (View.readAt (Elt F) arg9.view (Rect.unit (s := S64x4096) (k0_off21 k0_t1 ⟨n, h⟩) S64x256.size (k0_off21_inb k0_t1 ⟨n, h⟩)).toLoadRect X_arg9) a := by
      intro a; unfold trip_k0_t8; rfl
    rw [readAt_unit_congr (t := S1x256x64) arg6 X_arg6 _ _ _ (off_k_t8 k0_t1 ⟨n, h⟩) _ (kblk_inb n),
      readAt_unit_congr (t := S64x256) arg9 X_arg9 _ _ _ (off_v_t8 k0_t1 ⟨n, h⟩) _ (vblk_inb n)] at t
    exact (e.trans (t _)).trans (congrArg (stepS (score v285 v300 (kblk arg6 X_arg6 n)) (vblk arg9 X_arg9 n)) (ih (by omega)))

end Cert.KernelIdeal.Run

end
-- ==== Proof.KernelIdealTrip.lean ====
/- `KernelIdeal`'s trip over one block of queries: what it stores, and the loop over the blocks by what it has stored so far. -/
module

public import proofs.«01_k».proof.Proof.KernelIdealPair
public import Idealize.ShloMosaic.Lib.ValueIdx
public import Idealize.ShloMosaic.Lib.ValueIdxCoords

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- What one trip touches: the scales, the queries, the keys and the transposed values at their contents, the output's buffer at
    contents `f`. -/
abbrev Res (c : Dev nD) (arg1 : Memref sig .tc .smem S9 .i32) (harg1 : arg1.IsWhole) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X9 : BufTy.Contents (Elt F) arg9.view.ty) (f : BufTy.Contents (Elt F) arg8.view.ty) : sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg8.view.loc (c : Thread nD τ) ↦[arg8.view.set]{fullShare} f))

/-- The scale of head `h` in the scales' buffer. -/
abbrev headScale (arg2 : Memref sig .tc .smem S8 .f32) (X2 : BufTy.Contents (Elt F) arg2.view.ty) (h : ℕ) (hi : ∀ a, (![h] : Fin 1 → ℕ) a + S1.size a ≤ S8.size a) : Elt F .f32 :=
  View.readAt (Elt F) arg2.view (Rect.unit (s := S8) ![h] S1.size hi).toLoadRect X2 (Shape.Idx.first (by exact Nat.one_pos))

/-- The one element of a scale's buffer. -/
abbrev oneScale (arg3 : Memref sig .tc .smem S1 .f32) (X3 : BufTy.Contents (Elt F) arg3.view.ty) : Elt F .f32 :=
  View.readAt (Elt F) arg3.view (Rect.unit (s := S1) ![0] S1.size inb_S1_S1_0).toLoadRect X3 (Shape.Idx.first (by exact Nat.one_pos))

/-- The rows of queries of trip `k`. -/
abbrev qblk (arg5 : Memref sig .tc .vmem S1x4096x512 .fp8e4m3) (X5 : BufTy.Contents (Elt F) arg5.view.ty) (k : Fin k0_t1_loop.trips) : FVec F S128x512 .fp8e4m3 :=
  k0_pay17 (View.readAt (Elt F) arg5.view (Rect.unit (s := S1x4096x512) (k0_off2 k) S1x128x512.size (k0_off2_inb k)).toLoadRect X5)

/-- The block of keys that holds trip `k`'s diagonal. -/
abbrev kdiag (arg6 : Memref sig .tc .vmem S1x4096x64 .fp8e4m3) (X6 : BufTy.Contents (Elt F) arg6.view.ty) (k : Fin k0_t1_loop.trips) : Vec F S1x256x64 .fp8e4m3 :=
  View.readAt (Elt F) arg6.view (Rect.unit (s := S1x4096x64) (k0_off3 k) S1x256x64.size (k0_off3_inb k)).toLoadRect X6

/-- The block of transposed values that holds trip `k`'s diagonal. -/
abbrev vdiag (arg9 : Memref sig .tc .vmem S64x4096 .bf16) (X9 : BufTy.Contents (Elt F) arg9.view.ty) (k : Fin k0_t1_loop.trips) : Vec F S64x256 .bf16 :=
  View.readAt (Elt F) arg9.view (Rect.unit (s := S64x4096) (k0_off4 k) S64x256.size (k0_off4_inb k)).toLoadRect X9

/-- Four writes through the same rectangles leave the same contents when what they write is the same. -/
theorem writes_congr4 {sp : Space} {s : Shape} {e : EltTy} (v : View sig .tc sp s e) (f : v.ty.Contents (Elt F)) (r3 r2 r1 r0 : Rect s)
    {a3 b3 : r3.shape.Idx → Elt F e} {a2 b2 : r2.shape.Idx → Elt F e} {a1 b1 : r1.shape.Idx → Elt F e} {a0 b0 : r0.shape.Idx → Elt F e}
    (h3 : a3 = b3) (h2 : a2 = b2) (h1 : a1 = b1) (h0 : a0 = b0) :
    v.writes (Elt F) f [⟨r3, a3⟩, ⟨r2, a2⟩, ⟨r1, a1⟩, ⟨r0, a0⟩] = v.writes (Elt F) f [⟨r3, b3⟩, ⟨r2, b2⟩, ⟨r1, b1⟩, ⟨r0, b0⟩] := by
  subst h3 h2 h1 h0; rfl

/-- What a live trip stores: the four pairs of heads, the last stored first. -/
def pieces (arg2 : Memref sig .tc .smem S8 .f32) (arg3 : Memref sig .tc .smem S1 .f32) (arg4 : Memref sig .tc .smem S1 .f32) (arg5 : Memref sig .tc .vmem S1x4096x512 .fp8e4m3) (arg6 : Memref sig .tc .vmem S1x4096x64 .fp8e4m3) (arg9 : Memref sig .tc .vmem S64x4096 .bf16) (v1 : BitVec 32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X9 : BufTy.Contents (Elt F) arg9.view.ty) (k : Fin k0_t1_loop.trips) :
    List (View.Piece (Elt F) S1x4096x512 .bf16) :=
  [⟨Rect.unit (s := S1x4096x512) (k0_off24 k) S1x128x128.size (k0_off24_inb k), pairOut v1 (q0w k) (k0_pay96 (qblk arg5 X5 k)) (k0_pay20 (headScale arg2 X2 6 inb_S8_S1_6) (headScale arg2 X2 7 inb_S8_S1_7) (oneScale arg3 X3)) (kdiag arg6 X6 k) (vdiag arg9 X9 k) (kblk arg6 X6) (vblk arg9 X9) (k.val / 2) (oneScale arg4 X4)⟩,
   ⟨Rect.unit (s := S1x4096x512) (k0_off19 k) S1x128x128.size (k0_off19_inb k), pairOut v1 (q0w k) (k0_pay71 (qblk arg5 X5 k)) (k0_pay20 (headScale arg2 X2 4 inb_S8_S1_4) (headScale arg2 X2 5 inb_S8_S1_5) (oneScale arg3 X3)) (kdiag arg6 X6 k) (vdiag arg9 X9 k) (kblk arg6 X6) (vblk arg9 X9) (k.val / 2) (oneScale arg4 X4)⟩,
   ⟨Rect.unit (s := S1x4096x512) (k0_off14 k) S1x128x128.size (k0_off14_inb k), pairOut v1 (q0w k) (k0_pay46 (qblk arg5 X5 k)) (k0_pay20 (headScale arg2 X2 2 inb_S8_S1_2) (headScale arg2 X2 3 inb_S8_S1_3) (oneScale arg3 X3)) (kdiag arg6 X6 k) (vdiag arg9 X9 k) (kblk arg6 X6) (vblk arg9 X9) (k.val / 2) (oneScale arg4 X4)⟩,
   ⟨Rect.unit (s := S1x4096x512) (k0_off9 k) S1x128x128.size (k0_off9_inb k), pairOut v1 (q0w k) (k0_pay19 (View.readAt (Elt F) arg5.view (Rect.unit (s := S1x4096x512) (k0_off2 k) S1x128x512.size (k0_off2_inb k)).toLoadRect X5)) (k0_pay20 (headScale arg2 X2 0 inb_S8_S1_0) (headScale arg2 X2 1 inb_S8_S1_1) (oneScale arg3 X3)) (kdiag arg6 X6 k) (vdiag arg9 X9 k) (kblk arg6 X6) (vblk arg9 X9) (k.val / 2) (oneScale arg4 X4)⟩]

set_option maxHeartbeats 4000000 in
/-- A live trip stores the four pairs of heads' blocks. -/
theorem tripV (c : Dev nD) (E : Set ℕ) (i : grid0.Coords) (arg1 : Memref sig .tc .smem S9 .i32) (harg1 : arg1.IsWhole) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (v1 : Elt F .i32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X9 : BufTy.Contents (Elt F) arg9.view.ty) (f : BufTy.Contents (Elt F) arg8.view.ty) (k : Fin k0_t1_loop.trips) (h1 : k0_cond1 v1 k = 1#1) (h2 : ¬ k0_cond2 v1 k = 1#1) :
    Res (F := F) c arg1 harg1 arg2 harg2 arg3 harg3 arg4 harg4 arg5 harg5 arg6 harg6 arg7 harg7 arg8 harg8 arg9 harg9 X2 X3 X4 X5 X6 X9 f
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 v1 k ())
          (fun _ => iprop(∃ f', Res (F := F) c arg1 harg1 arg2 harg2 arg3 harg3 arg4 harg4 arg5 harg5 arg6 harg6 arg7 harg7 arg8 harg8 arg9 harg9 X2 X3 X4 X5 X6 X9 f' ∗ ⌜f' = arg8.view.writes (Elt F) f (pieces arg2 arg3 arg4 arg5 arg6 arg9 v1 X2 X3 X4 X5 X6 X9 k)⌝)) := by
  unfold k0_t1_body
  simp only [k0_part1_eq_skeleton, k0_part2_eq_skeleton, k0_part3_eq_skeleton, k0_part4_eq_skeleton, k0_part5_eq_skeleton,
    k0_part6_eq_skeleton, k0_part7_eq_skeleton]
  iintro ⟨H2, H3, H4, H5, H6, H9, H8⟩
  sl_exec
  sl_step
  iexists _
  isplitl
  · unfold Res
    isplitl [H2]; · iexact H2
    isplitl [H3]; · iexact H3
    isplitl [H4]; · iexact H4
    isplitl [H5]; · iexact H5
    isplitl [H6]; · iexact H6
    isplitl [H9]; · iexact H9
    iexact H8
  · ipureintro
    have e2 : Scf.trips (k0_t2_loop k).lb (k0_t2_loop k).ub (k0_t2_loop k).st = k.val / 2 := trips_t2 k
    have e3 : Scf.trips (k0_t3_loop k).lb (k0_t3_loop k).ub (k0_t3_loop k).st = 0 := trips_t3 k
    have e4 : Scf.trips (k0_t4_loop k).lb (k0_t4_loop k).ub (k0_t4_loop k).st = k.val / 2 := trips_t4 k
    have e5 : Scf.trips (k0_t5_loop k).lb (k0_t5_loop k).ub (k0_t5_loop k).st = 0 := trips_t5 k
    have e6 : Scf.trips (k0_t6_loop k).lb (k0_t6_loop k).ub (k0_t6_loop k).st = k.val / 2 := trips_t6 k
    have e7 : Scf.trips (k0_t7_loop k).lb (k0_t7_loop k).ub (k0_t7_loop k).st = 0 := trips_t7 k
    have e8 : Scf.trips (k0_t8_loop k).lb (k0_t8_loop k).ub (k0_t8_loop k).st = k.val / 2 := trips_t8 k
    have e9 : Scf.trips (k0_t9_loop k).lb (k0_t9_loop k).ub (k0_t9_loop k).st = 0 := trips_t9 k
    have g2 : k.val / 2 ≤ (k0_t2_loop k).trips := (trips_t2 k).ge
    have g4 : k.val / 2 ≤ (k0_t4_loop k).trips := (trips_t4 k).ge
    have g6 : k.val / 2 ≤ (k0_t6_loop k).trips := (trips_t6 k).ge
    have g8 : k.val / 2 ≤ (k0_t8_loop k).trips := (trips_t8 k).ge
    refine writes_congr4 arg8.view f _ _ _ _ ?_ ?_ ?_ ?_
    · rw [e9, st_k0_t9_zero, e8, st_t8 (hn := g8)]; rfl
    · unfold tripV.sl.r_30
      rw [e7, st_k0_t7_zero, e6, st_t6 (hn := g6)]; rfl
    · unfold tripV.sl.r_19
      rw [e5, st_k0_t5_zero, e4, st_t4 (hn := g4)]; rfl
    · unfold tripV.sl.r_10
      rw [e3, st_k0_t3_zero, e2, st_t2 (hn := g2)]; rfl

set_option maxHeartbeats 4000000 in
/-- A trip past the length stores zeros over the whole block of queries. -/
theorem tripDead (c : Dev nD) (E : Set ℕ) (i : grid0.Coords) (arg1 : Memref sig .tc .smem S9 .i32) (harg1 : arg1.IsWhole) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (v1 : Elt F .i32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X9 : BufTy.Contents (Elt F) arg9.view.ty) (f : BufTy.Contents (Elt F) arg8.view.ty) (k : Fin k0_t1_loop.trips) (h1 : ¬ k0_cond1 v1 k = 1#1) (h2 : k0_cond2 v1 k = 1#1) :
    Res (F := F) c arg1 harg1 arg2 harg2 arg3 harg3 arg4 harg4 arg5 harg5 arg6 harg6 arg7 harg7 arg8 harg8 arg9 harg9 X2 X3 X4 X5 X6 X9 f
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 v1 k ())
          (fun _ => iprop(∃ f', Res (F := F) c arg1 harg1 arg2 harg2 arg3 harg3 arg4 harg4 arg5 harg5 arg6 harg6 arg7 harg7 arg8 harg8 arg9 harg9 X2 X3 X4 X5 X6 X9 f' ∗ ⌜f' = arg8.view.writes (Elt F) f [⟨Rect.unit (s := S1x4096x512) (k0_off25 k) S1x128x512.size (k0_off25_inb k), k0_pay16⟩]⌝)) := by
  unfold k0_t1_body
  simp only [k0_part1_eq_skeleton, k0_part2_eq_skeleton, k0_part3_eq_skeleton, k0_part4_eq_skeleton, k0_part5_eq_skeleton,
    k0_part6_eq_skeleton, k0_part7_eq_skeleton]
  iintro ⟨H2, H3, H4, H5, H6, H9, H8⟩
  sl_exec
  sl_step
  iexists _
  isplitl
  · unfold Res
    isplitl [H2]; · iexact H2
    isplitl [H3]; · iexact H3
    isplitl [H4]; · iexact H4
    isplitl [H5]; · iexact H5
    isplitl [H6]; · iexact H6
    isplitl [H9]; · iexact H9
    iexact H8
  · ipureintro; rfl

/-- Exactly one of the two conditions of a trip holds. -/
theorem cond_iff (v1 : BitVec 32) (k : Fin k0_t1_loop.trips) : k0_cond2 v1 k = 1#1 ↔ ¬ k0_cond1 v1 k = 1#1 := by
  unfold k0_cond1 k0_cond2
  simp only [Scalar.cmpi, Scalar.extui, Scalar.muli, IntOp.cmpi]
  generalize IntOp.muli (Scf.iv 0#32 1#32 k.val) 128#32 = a
  rw [BitVec.sle_eq_not_slt]
  cases a.slt v1 <;> decide

/-- Where trip `k` stores the block of this pair of heads. -/
theorem off9_eq : ∀ k : Fin k0_t1_loop.trips, k0_off9 k = ![0, 128 * k.val, 0] := by decide +kernel
/-- Where trip `k` stores the block of this pair of heads. -/
theorem off14_eq : ∀ k : Fin k0_t1_loop.trips, k0_off14 k = ![0, 128 * k.val, 128] := by decide +kernel
/-- Where trip `k` stores the block of this pair of heads. -/
theorem off19_eq : ∀ k : Fin k0_t1_loop.trips, k0_off19 k = ![0, 128 * k.val, 256] := by decide +kernel
/-- Where trip `k` stores the block of this pair of heads. -/
theorem off24_eq : ∀ k : Fin k0_t1_loop.trips, k0_off24 k = ![0, 128 * k.val, 384] := by decide +kernel
/-- Where a trip past the length stores its zeros. -/
theorem off25_eq : ∀ k : Fin k0_t1_loop.trips, k0_off25 k = ![0, 128 * k.val, 0] := by decide +kernel
/-- Where trip `k` reads its rows of queries. -/
theorem off2_eq : ∀ k : Fin k0_t1_loop.trips, k0_off2 k = ![0, 128 * k.val, 0] := by decide +kernel
/-- The diagonal block of keys of trip `k`. -/
theorem off3_eq : ∀ k : Fin k0_t1_loop.trips, k0_off3 k = ![0, 256 * (k.val / 2), 0] := by decide +kernel
/-- The diagonal block of values of trip `k`. -/
theorem off4_eq : ∀ k : Fin k0_t1_loop.trips, k0_off4 k = ![0, 256 * (k.val / 2)] := by decide +kernel
/-- The loop over blocks of queries makes 32 trips. -/
theorem trips_t1 : k0_t1_loop.trips = 32 := by decide +kernel

/-- The queries of pair `p` out of a block of queries. -/
def qsel (raw : Vec F S1x128x512 .fp8e4m3) (p : ℕ) : FVec F S256x64 .fp8e4m3 :=
  if p = 0 then k0_pay19 raw else if p = 1 then k0_pay46 (k0_pay17 raw) else if p = 2 then k0_pay71 (k0_pay17 raw)
  else k0_pay96 (k0_pay17 raw)

/-- An index of the scales. -/
abbrev sIdx (h : ℕ) : S8.Idx := ix1 ⟨h % 8, Nat.mod_lt _ (by decide)⟩

/-- The block of a pair of heads `p` and a block of queries `k`, from the operands whole: the scales `xs`, the scales of the keys
    and of the values, the queries, the keys and the transposed values. -/
def pairG (v1 : BitVec 32) (xs : Vec F S8 .f32) (ks vs : Vec F S1 .f32) (x : Vec F S1x4096x512 .fp8e4m3)
    (kv : Vec F S1x4096x64 .fp8e4m3) (vt : Vec F S64x4096 .bf16) (p : ℕ) (k : Fin k0_t1_loop.trips) : FVec F S1x128x128 .bf16 :=
  pairOut v1 (q0w k) (qsel (fun i => x ((Rect.unit (s := S1x4096x512) (k0_off2 k) S1x128x512.size (k0_off2_inb k)).idx i)) p)
    (k0_pay20 (xs (sIdx (2 * p))) (xs (sIdx (2 * p + 1))) (ks (ix1 u0)))
    (fun i => kv ((Rect.unit (s := S1x4096x64) (k0_off3 k) S1x256x64.size (k0_off3_inb k)).idx i))
    (fun i => vt ((Rect.unit (s := S64x4096) (k0_off4 k) S64x256.size (k0_off4_inb k)).idx i))
    (fun j i => kv ((Rect.unit (s := S1x4096x64) ![0, 256 * (j % 16), 0] S1x256x64.size (kblk_inb j)).idx i))
    (fun j i => vt ((Rect.unit (s := S64x4096) ![0, 256 * (j % 16)] S64x256.size (vblk_inb j)).idx i))
    (k.val / 2) (vs (ix1 u0))

/-- A row lies in one of the 32 blocks of queries. -/
theorem row_lt (y : S1x4096x512.Idx) : (y 1).val / 128 < k0_t1_loop.trips := by
  rw [trips_t1]; have : (y 1).val < 4096 := (y 1).isLt; omega

/-- The index of `y` inside its block of one pair of heads. -/
def inPair (y : S1x4096x512.Idx) : S1x128x128.Idx :=
  ix3 (n0 := 1) (n1 := 128) (n2 := 128) ⟨0, by decide⟩ ⟨(y 1).val % 128, Nat.mod_lt _ (by decide)⟩ ⟨(y 2).val % 128, Nat.mod_lt _ (by decide)⟩

/-- The index of `y` inside its block of queries. -/
def inRows (y : S1x4096x512.Idx) : S1x128x512.Idx :=
  ix3 (n0 := 1) (n1 := 128) (n2 := 512) ⟨0, by decide⟩ ⟨(y 1).val % 128, Nat.mod_lt _ (by decide)⟩ ⟨(y 2).val, (y 2).isLt⟩

/-- What the body leaves in the output's block, from the operands whole. -/
def outG (v1 : BitVec 32) (xs : Vec F S8 .f32) (ks vs : Vec F S1 .f32) (x : Vec F S1x4096x512 .fp8e4m3)
    (kv : Vec F S1x4096x64 .fp8e4m3) (vt : Vec F S64x4096 .bf16) : Vec F S1x4096x512 .bf16 := fun y =>
  if k0_cond1 v1 ⟨(y 1).val / 128, row_lt y⟩ = 1#1 then
    pairG v1 xs ks vs x kv vt ((y 2).val / 128) ⟨(y 1).val / 128, row_lt y⟩ (inPair y)
  else (k0_pay16 : FVec F S1x128x512 .bf16) (inRows y)

/-- Rows below `128 * k` of the output's buffer hold `G`. -/
def RowsDone (arg8 : Memref sig .tc .vmem S1x4096x512 .bf16) (G : Vec F S1x4096x512 .bf16) (f : BufTy.Contents (Elt F) arg8.view.ty)
    (k : ℕ) : Prop :=
  ∀ y : S1x4096x512.Idx, (y 1).val < 128 * k → arg8.view.read (Elt F) f y = G y

open Classical in
/-- Zero when the rows of the first `k` blocks are done; before any trip there is nothing to look at. -/
def missing (arg8 : Memref sig .tc .vmem S1x4096x512 .bf16) (G : Vec F S1x4096x512 .bf16) (f : BufTy.Contents (Elt F) arg8.view.ty) :
    ℕ → ℕ
  | 0 => 0
  | k + 1 => if RowsDone arg8 G f (k + 1) then 0 else 1

/-- No row is missing exactly when all the rows below the block are done. -/
theorem missing_iff (arg8 : Memref sig .tc .vmem S1x4096x512 .bf16) (G : Vec F S1x4096x512 .bf16) (f : BufTy.Contents (Elt F) arg8.view.ty)
    (k : ℕ) : missing arg8 G f k = 0 ↔ RowsDone arg8 G f k := by
  cases k with
  | zero => simp [missing, RowsDone]
  | succ k => simp [missing]

/-- The operands' part of what the body leaves, read out of the buffers. -/
abbrev memG (arg2 : Memref sig .tc .smem S8 .f32) (arg3 : Memref sig .tc .smem S1 .f32) (arg4 : Memref sig .tc .smem S1 .f32) (arg5 : Memref sig .tc .vmem S1x4096x512 .fp8e4m3) (arg6 : Memref sig .tc .vmem S1x4096x64 .fp8e4m3) (arg9 : Memref sig .tc .vmem S64x4096 .bf16) (v1 : BitVec 32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X9 : BufTy.Contents (Elt F) arg9.view.ty) : Vec F S1x4096x512 .bf16 :=
  outG v1 (arg2.view.read (Elt F) X2) (arg3.view.read (Elt F) X3) (arg4.view.read (Elt F) X4) (arg5.view.read (Elt F) X5) (arg6.view.read (Elt F) X6) (arg9.view.read (Elt F) X9)

/-- A load through a rectangle reads the view at the rectangle's indices. -/
theorem readAt_read {sp : Space} {s : Shape} {e : EltTy} (v : View sig .tc sp s e) (r : Rect s) (X : v.ty.Contents (Elt F)) :
    View.readAt (Elt F) v r.toLoadRect X = fun i => v.read (Elt F) X (r.idx i) := rfl

/-- Equal ingredients give an equal block. -/
theorem pairOut_congr (v1 w : BitVec 32) {q q' : FVec F S256x64 .fp8e4m3} {cc cc' : FVec F S1x256 .f32} {kd kd' : Vec F S1x256x64 .fp8e4m3}
    {vd vd' : Vec F S64x256 .bf16} {kb kb' : ℕ → Vec F S1x256x64 .fp8e4m3} {vb vb' : ℕ → Vec F S64x256 .bf16} (n : ℕ) {vs vs' : Elt F .f32}
    (h1 : q = q') (h2 : cc = cc') (h3 : kd = kd') (h4 : vd = vd') (h5 : kb = kb') (h6 : vb = vb') (h7 : vs = vs') :
    pairOut v1 w q cc kd vd kb vb n vs = pairOut v1 w q' cc' kd' vd' kb' vb' n vs' := by
  subst h1 h2 h3 h4 h5 h6 h7; rfl

/-- The load of one head's scale is that element of the scales. -/
theorem headScale_eq (arg2 : Memref sig .tc .smem S8 .f32) (X2 : BufTy.Contents (Elt F) arg2.view.ty) (h : ℕ) (hi : ∀ a, (![h] : Fin 1 → ℕ) a + S1.size a ≤ S8.size a) :
    headScale arg2 X2 h hi = arg2.view.read (Elt F) X2 (sIdx h) := by
  have h8 : h < 8 := by have := hi 0; simp at this; omega
  unfold headScale
  rw [readAt_read]
  refine congrArg (arg2.view.read (Elt F) X2) (funext fun a => Fin.ext ?_)
  fin_cases a
  simp [LoadRect.idx, Rect.unit, sIdx, Shape.Idx.first, Nat.mod_eq_of_lt h8]

/-- The load of the one scale is its element. -/
theorem oneScale_eq (arg3 : Memref sig .tc .smem S1 .f32) (X3 : BufTy.Contents (Elt F) arg3.view.ty) :
    oneScale arg3 X3 = arg3.view.read (Elt F) X3 (ix1 u0) := by
  unfold oneScale
  rw [readAt_read]
  refine congrArg (arg3.view.read (Elt F) X3) (funext fun a => Fin.ext ?_)
  fin_cases a
  simp [LoadRect.idx, Rect.unit, Shape.Idx.first, u0]

/-- The lanes' scales, from the loaded words to the elements. -/
theorem scales_eq (arg2 : Memref sig .tc .smem S8 .f32) (X2 : BufTy.Contents (Elt F) arg2.view.ty) (h h' : ℕ) (hi hi')
    (arg3 : Memref sig .tc .smem S1 .f32) (X3 : BufTy.Contents (Elt F) arg3.view.ty) :
    k0_pay20 (headScale arg2 X2 h hi) (headScale arg2 X2 h' hi') (oneScale arg3 X3)
      = k0_pay20 (arg2.view.read (Elt F) X2 (sIdx h)) (arg2.view.read (Elt F) X2 (sIdx h')) (arg3.view.read (Elt F) X3 (ix1 u0)) := by
  rw [headScale_eq, headScale_eq, oneScale_eq]

/-- A live trip's stores leave the rows of its block done. -/
theorem live_rows (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (v1 : Elt F .i32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X9 : BufTy.Contents (Elt F) arg9.view.ty) (f : BufTy.Contents (Elt F) arg8.view.ty) (k : Fin k0_t1_loop.trips) (h1 : k0_cond1 v1 k = 1#1)
    (h : RowsDone arg8 (memG arg2 arg3 arg4 arg5 arg6 arg9 v1 X2 X3 X4 X5 X6 X9) f k.val) :
    RowsDone arg8 (memG arg2 arg3 arg4 arg5 arg6 arg9 v1 X2 X3 X4 X5 X6 X9) (arg8.view.writes (Elt F) f (pieces arg2 arg3 arg4 arg5 arg6 arg9 v1 X2 X3 X4 X5 X6 X9 k)) (k.val + 1) := by
  intro y hy
  have hk : k.val < 32 := Nat.lt_of_lt_of_eq k.isLt trips_t1
  have hy2 : (y 2).val < 512 := (y 2).isLt
  have hy0 : (y 0).val < 1 := (y 0).isLt
  unfold pieces
  by_cases hlt : (y 1).val < 128 * k.val
  · rw [View.read_writes_cons_miss_of_axis arg8.view f _ _ y (1 : Fin 3) (128 * k.val) 128 (by show k0_off24 k 1 = _; rw [off24_eq]; rfl) rfl rfl (Or.inl hlt),
      View.read_writes_cons_miss_of_axis arg8.view f _ _ y (1 : Fin 3) (128 * k.val) 128 (by show k0_off19 k 1 = _; rw [off19_eq]; rfl) rfl rfl (Or.inl hlt),
      View.read_writes_cons_miss_of_axis arg8.view f _ _ y (1 : Fin 3) (128 * k.val) 128 (by show k0_off14 k 1 = _; rw [off14_eq]; rfl) rfl rfl (Or.inl hlt),
      View.read_writes_cons_miss_of_axis arg8.view f _ _ y (1 : Fin 3) (128 * k.val) 128 (by show k0_off9 k 1 = _; rw [off9_eq]; rfl) rfl rfl (Or.inl hlt)]
    exact h y hlt
  · have hq : (y 1).val / 128 = k.val := by omega
    have hkk : (⟨(y 1).val / 128, row_lt y⟩ : Fin k0_t1_loop.trips) = k := Fin.ext hq
    have hG : memG arg2 arg3 arg4 arg5 arg6 arg9 v1 X2 X3 X4 X5 X6 X9 y = pairG v1 (arg2.view.read (Elt F) X2) (arg3.view.read (Elt F) X3) (arg4.view.read (Elt F) X4) (arg5.view.read (Elt F) X5) (arg6.view.read (Elt F) X6) (arg9.view.read (Elt F) X9) ((y 2).val / 128) k (inPair y) := by
      unfold memG outG
      rw [hkk, if_pos h1]
    rw [hG]
    by_cases h3 : 384 ≤ (y 2).val
    · rw [View.read_writes_cons_hit_of_coords arg8.view f _ _ _ (inPair y) y (fun a => by
        refine Eq.trans ?_ (congrArg (· + 1 * (inPair y a).val) (congrFun (off24_eq k) a).symm); fin_cases a <;> simp [inPair] <;> omega)]
      rw [show (y 2).val / 128 = 3 by omega]
      exact congrFun (pairOut_congr v1 (q0w k) (k.val / 2) rfl (scales_eq ..) rfl rfl rfl rfl (oneScale_eq ..)) (inPair y)
    rw [View.read_writes_cons_miss_of_axis arg8.view f _ _ y (2 : Fin 3) 384 128 (by show k0_off24 k 2 = _; rw [off24_eq]; rfl) rfl rfl (Or.inl (by omega))]
    by_cases h3 : 256 ≤ (y 2).val
    · rw [View.read_writes_cons_hit_of_coords arg8.view f _ _ _ (inPair y) y (fun a => by
        refine Eq.trans ?_ (congrArg (· + 1 * (inPair y a).val) (congrFun (off19_eq k) a).symm); fin_cases a <;> simp [inPair] <;> omega)]
      rw [show (y 2).val / 128 = 2 by omega]
      exact congrFun (pairOut_congr v1 (q0w k) (k.val / 2) rfl (scales_eq ..) rfl rfl rfl rfl (oneScale_eq ..)) (inPair y)
    rw [View.read_writes_cons_miss_of_axis arg8.view f _ _ y (2 : Fin 3) 256 128 (by show k0_off19 k 2 = _; rw [off19_eq]; rfl) rfl rfl (Or.inl (by omega))]
    by_cases h3 : 128 ≤ (y 2).val
    · rw [View.read_writes_cons_hit_of_coords arg8.view f _ _ _ (inPair y) y (fun a => by
        refine Eq.trans ?_ (congrArg (· + 1 * (inPair y a).val) (congrFun (off14_eq k) a).symm); fin_cases a <;> simp [inPair] <;> omega)]
      rw [show (y 2).val / 128 = 1 by omega]
      exact congrFun (pairOut_congr v1 (q0w k) (k.val / 2) rfl (scales_eq ..) rfl rfl rfl rfl (oneScale_eq ..)) (inPair y)
    rw [View.read_writes_cons_miss_of_axis arg8.view f _ _ y (2 : Fin 3) 128 128 (by show k0_off14 k 2 = _; rw [off14_eq]; rfl) rfl rfl (Or.inl (by omega))]
    rw [View.read_writes_cons_hit_of_coords arg8.view f _ _ _ (inPair y) y (fun a => by
      refine Eq.trans ?_ (congrArg (· + 1 * (inPair y a).val) (congrFun (off9_eq k) a).symm); fin_cases a <;> simp [inPair] <;> omega)]
    rw [show (y 2).val / 128 = 0 by omega]
    exact congrFun (pairOut_congr v1 (q0w k) (k.val / 2) rfl (scales_eq ..) rfl rfl rfl rfl (oneScale_eq ..)) (inPair y)

/-- A dead trip's store leaves the rows of its block done. -/
theorem dead_rows (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (v1 : Elt F .i32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X9 : BufTy.Contents (Elt F) arg9.view.ty) (f : BufTy.Contents (Elt F) arg8.view.ty) (k : Fin k0_t1_loop.trips) (h1 : ¬ k0_cond1 v1 k = 1#1)
    (h : RowsDone arg8 (memG arg2 arg3 arg4 arg5 arg6 arg9 v1 X2 X3 X4 X5 X6 X9) f k.val) :
    RowsDone arg8 (memG arg2 arg3 arg4 arg5 arg6 arg9 v1 X2 X3 X4 X5 X6 X9) (arg8.view.writes (Elt F) f [⟨Rect.unit (s := S1x4096x512) (k0_off25 k) S1x128x512.size (k0_off25_inb k), k0_pay16⟩]) (k.val + 1) := by
  intro y hy
  have hk : k.val < 32 := Nat.lt_of_lt_of_eq k.isLt trips_t1
  have hy2 : (y 2).val < 512 := (y 2).isLt
  have hy0 : (y 0).val < 1 := (y 0).isLt
  by_cases hlt : (y 1).val < 128 * k.val
  · rw [View.read_writes_cons_miss_of_axis arg8.view f _ _ y (1 : Fin 3) (128 * k.val) 128 (by show k0_off25 k 1 = _; rw [off25_eq]; rfl) rfl rfl (Or.inl hlt)]
    exact h y hlt
  · have hq : (y 1).val / 128 = k.val := by omega
    have hkk : (⟨(y 1).val / 128, row_lt y⟩ : Fin k0_t1_loop.trips) = k := Fin.ext hq
    have hG : memG arg2 arg3 arg4 arg5 arg6 arg9 v1 X2 X3 X4 X5 X6 X9 y = (k0_pay16 : FVec F S1x128x512 .bf16) (inRows y) := by
      unfold memG outG
      rw [hkk, if_neg h1]
    rw [hG]
    rw [View.read_writes_cons_hit_of_coords arg8.view f _ _ _ (inRows y) y (fun a => by
      refine Eq.trans ?_ (congrArg (· + 1 * (inRows y a).val) (congrFun (off25_eq k) a).symm); fin_cases a <;> simp [inRows] <;> omega)]

/-- One trip, in each case of its conditions: the rows of its block are done. -/
theorem trip (c : Dev nD) (E : Set ℕ) (i : grid0.Coords) (arg1 : Memref sig .tc .smem S9 .i32) (harg1 : arg1.IsWhole) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (v1 : Elt F .i32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X9 : BufTy.Contents (Elt F) arg9.view.ty) (f : BufTy.Contents (Elt F) arg8.view.ty) (k : Fin k0_t1_loop.trips) (h : RowsDone arg8 (memG arg2 arg3 arg4 arg5 arg6 arg9 v1 X2 X3 X4 X5 X6 X9) f k.val) :
    Res (F := F) c arg1 harg1 arg2 harg2 arg3 harg3 arg4 harg4 arg5 harg5 arg6 harg6 arg7 harg7 arg8 harg8 arg9 harg9 X2 X3 X4 X5 X6 X9 f
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 v1 k ())
          (fun _ => iprop(∃ f', Res (F := F) c arg1 harg1 arg2 harg2 arg3 harg3 arg4 harg4 arg5 harg5 arg6 harg6 arg7 harg7 arg8 harg8 arg9 harg9 X2 X3 X4 X5 X6 X9 f' ∗ ⌜missing arg8 (memG arg2 arg3 arg4 arg5 arg6 arg9 v1 X2 X3 X4 X5 X6 X9) f' (k.val + 1) = 0⌝)) := by
  have am : ∀ (P : BufTy.Contents (Elt F) arg8.view.ty → Prop) (g : BufTy.Contents (Elt F) arg8.view.ty), P g →
      (∀ f', f' = g → P f') := fun P g hg f' e => e ▸ hg
  by_cases h1 : k0_cond1 v1 k = 1#1
  · have h2 : ¬ k0_cond2 v1 k = 1#1 := fun h2 => (cond_iff v1 k).mp h2 h1
    iintro HR
    iapply (wp_wand_r Idealize.ShloMosaic.frame (wpE (defs₀ (F := F)) Variants.none (c : Thread nD τ) none) E)
    isplitl [HR]
    · iapply (tripV c E i arg1 harg1 arg2 harg2 arg3 harg3 arg4 harg4 arg5 harg5 arg6 harg6 arg7 harg7 arg8 harg8 arg9 harg9 v1 X2 X3 X4 X5 X6 X9 f k h1 h2)
      iexact HR
    · iintro %_ ⟨%f', HR, %e⟩
      iexists f'
      isplitl
      · iexact HR
      · ipureintro
        exact am (fun f' => missing arg8 (memG arg2 arg3 arg4 arg5 arg6 arg9 v1 X2 X3 X4 X5 X6 X9) f' (k.val + 1) = 0) _
          ((missing_iff ..).mpr (live_rows arg2 harg2 arg3 harg3 arg4 harg4 arg5 harg5 arg6 harg6 arg7 harg7 arg8 harg8 arg9 harg9 v1 X2 X3 X4 X5 X6 X9 f k h1 h)) _ e
  · have h2 : k0_cond2 v1 k = 1#1 := (cond_iff v1 k).mpr h1
    iintro HR
    iapply (wp_wand_r Idealize.ShloMosaic.frame (wpE (defs₀ (F := F)) Variants.none (c : Thread nD τ) none) E)
    isplitl [HR]
    · iapply (tripDead c E i arg1 harg1 arg2 harg2 arg3 harg3 arg4 harg4 arg5 harg5 arg6 harg6 arg7 harg7 arg8 harg8 arg9 harg9 v1 X2 X3 X4 X5 X6 X9 f k h1 h2)
      iexact HR
    · iintro %_ ⟨%f', HR, %e⟩
      iexists f'
      isplitl
      · iexact HR
      · ipureintro
        exact am (fun f' => missing arg8 (memG arg2 arg3 arg4 arg5 arg6 arg9 v1 X2 X3 X4 X5 X6 X9) f' (k.val + 1) = 0) _
          ((missing_iff ..).mpr (dead_rows arg2 harg2 arg3 harg3 arg4 harg4 arg5 harg5 arg6 harg6 arg7 harg7 arg8 harg8 arg9 harg9 v1 X2 X3 X4 X5 X6 X9 f k h1 h)) _ e

set_option warn.classDefReducibility false in
/-- The loop over query blocks, by its invariant: what it reads is as it was, the rows of the output's buffer up to the trip are done. -/
@[sl_loop] def loopInv (c : Dev nD) (E : Set ℕ) (i : grid0.Coords) (arg1 : Memref sig .tc .smem S9 .i32) (harg1 : arg1.IsWhole) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole) (v1 : Elt F .i32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X9 : BufTy.Contents (Elt F) arg9.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 v1 where
  inv n _ := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (∃ f, (arg8.view.loc (c : Thread nD τ) ↦[arg8.view.set]{fullShare} f) ∗ ⌜missing arg8 (memG arg2 arg3 arg4 arg5 arg6 arg9 v1 X2 X3 X4 X5 X6 X9) f n = 0⌝))
  step k _ := by
    iintro ⟨H2, H3, H4, H5, H6, H9, ⟨%f, H8, %hf⟩⟩
    iapply (wp_wand_r Idealize.ShloMosaic.frame (wpE (defs₀ (F := F)) Variants.none (c : Thread nD τ) none) E)
    isplitl [H2 H3 H4 H5 H6 H9 H8]
    · iapply (trip c E i arg1 harg1 arg2 harg2 arg3 harg3 arg4 harg4 arg5 harg5 arg6 harg6 arg7 harg7 arg8 harg8 arg9 harg9 v1 X2 X3 X4 X5 X6 X9 f k ((missing_iff ..).mp hf))
      unfold Res
      isplitl [H2]; · iexact H2
      isplitl [H3]; · iexact H3
      isplitl [H4]; · iexact H4
      isplitl [H5]; · iexact H5
      isplitl [H6]; · iexact H6
      isplitl [H9]; · iexact H9
      iexact H8
    · iintro %_ ⟨%f', ⟨H2, H3, H4, H5, H6, H9, H8⟩, %e⟩
      isplitl [H2]; · iexact H2
      isplitl [H3]; · iexact H3
      isplitl [H4]; · iexact H4
      isplitl [H5]; · iexact H5
      isplitl [H6]; · iexact H6
      isplitl [H9]; · iexact H9
      iexists f'
      isplitl
      · iexact H8
      · ipureintro; exact e

end Cert.KernelIdeal.Run

end
-- ==== Proof.KernelIdealBody.lean ====
/- `KernelIdeal`'s body on whole staging buffers: it leaves its inputs as they were and the output's block at its value. -/
module

public import proofs.«01_k».proof.Proof.KernelIdealTrip

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The length of point `i`'s sequence, the word of the table the body loads. -/
abbrev lenW (c : Dev nD) (i : grid0.Coords) (xt0 : TbBuf0 (F := F) c tbM0_0) : BitVec 32 :=
  View.readAt (Elt F) tbM0_0.view (Rect.unit (s := S9) (k0_off1 i) S1.size (k0_off1_inb i)).toLoadRect xt0 (Shape.Idx.first (by exact Nat.one_pos))

/-- The scratch holds the values transposed, after the one write over all of it. -/
theorem scratch_read (arg7 : Memref sig .tc .vmem S1x4096x64 .fp8e4m3) (harg7 : arg7.IsWhole) (arg9 : Memref sig .tc .vmem S64x4096 .bf16)
    (x5 : Vec F S1x4096x64 .fp8e4m3) (f : arg9.view.ty.Contents (Elt F)) :
    arg9.view.read (Elt F) (arg9.view.writes (Elt F) f
      [⟨Rect.unit ![0, 0] S64x4096.size inb_S64x4096_S64x4096_0_0,
        k0_pay1 (View.readAt (Elt F) arg7.view
          (Rect.unit ![0, 0, 0] S1x4096x64.size inb_S1x4096x64_S1x4096x64_0_0_0).toLoadRect (harg7.unread x5))⟩])
      = k0_pay1 x5 := by
  funext y
  rw [View.read_writes_cons_hit_of_coords arg9.view f _ _ _ y y (fun a => by
    refine Eq.trans ?_ (congrArg (· + 1 * (y a).val) (show (0 : ℕ) = (![0, 0] : Fin 2 → ℕ) a by fin_cases a <;> rfl)); omega)]
  refine congrFun (congrArg k0_pay1 (funext fun z => ?_)) y
  rw [readAt_read, harg7.read_unread]
  refine congrArg x5 (funext fun a => Fin.ext ?_)
  show (![0, 0, 0] : Fin 3 → ℕ) a + 1 * (z a).val = _
  have : (![0, 0, 0] : Fin 3 → ℕ) a = 0 := by fin_cases a <;> rfl
  rw [this]; omega

-- (the run's proof term is large: checking it walks past the default budget)
set_option maxHeartbeats 1000000 in
/-- The body's triple: on whole staging memrefs — the inputs' at their contents, the output's at anything — the body runs to the
    continuation holding the inputs' as they were, the output's at its value, the scratch at some contents. -/
theorem kernelRun0_A (c : Dev nD) (i : grid0.Coords) (arg2 : Memref sig .tc .smem S8 .f32) (harg2 : arg2.IsWhole) (arg3 : Memref sig .tc .smem S1 .f32) (harg3 : arg3.IsWhole) (arg4 : Memref sig .tc .smem S1 .f32) (harg4 : arg4.IsWhole) (arg5 : Memref sig .tc .vmem S1x4096x512 .fp8e4m3) (harg5 : arg5.IsWhole) (arg6 : Memref sig .tc .vmem S1x4096x64 .fp8e4m3) (harg6 : arg6.IsWhole) (arg7 : Memref sig .tc .vmem S1x4096x64 .fp8e4m3) (harg7 : arg7.IsWhole) (arg8 : Memref sig .tc .vmem S1x4096x512 .bf16) (harg8 : arg8.IsWhole) (arg9 : Memref sig .tc .vmem S64x4096 .bf16) (harg9 : arg9.IsWhole)
    (x0 : Vec F S8 .f32) (x1 : Vec F S1 .f32) (x2 : Vec F S1 .f32) (x3 : Vec F S1x4096x512 .fp8e4m3) (x4 : Vec F S1x4096x64 .fp8e4m3) (x5 : Vec F S1x4096x64 .fp8e4m3) (xt0 : TbBuf0 (F := F) c tbM0_0) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outG (lenW c i xt0) x0 x1 x2 x3 x4 (k0_pay1 x5)) ∗ (∃ d, owns (c : Thread nD τ) arg9 fullShare d) ∗ tbPt0 c tbM0_0 xt0) -∗ K ⟨⟩))
          ⊢ wp frame (wpE (defs₀ (F := F)) Variants.none c none) E (cc0_prefill_attention i tbM0_0 htbM0_0 arg2 harg2 arg3 harg3 arg4 harg4 arg5 harg5 arg6 harg6 arg7 harg7 arg8 harg8 arg9 harg9) K := by
    intro E K
    simp only [cc0_prefill_attention_eq_skeleton]; unfold cc0_prefill_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      have hd := (missing_iff ..).mp hL7
      funext y
      refine (hd y ?_).trans ?_
      · show _ < 128 * k0_t1_loop.trips
        rw [trips_t1]; exact (y 1).isLt
      · unfold memG kernelRun0_A.sl.r kernelRun0_A.sl.HS0_1
        rw [hf0, hf1, hf2, hf3, hf4, scratch_read]
    isplitl [HS0]
    · iexists _, _; isplitr; swap; · iexact HS0
      ipureintro; rfl
    iexact HT0

end Cert.KernelIdeal.Run

end
-- ==== Proof.KernelIdealFrame.lean ====
/- `KernelIdeal`'s frame: the pipeline's proof data with the output at its value, the body obligation at every point, the run, the claim. -/
module

public import proofs.«01_k».proof.Proof.KernelIdealBody
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
/-! ## The pipeline's proof data -/

/-- What the body leaves in the output's block at point `t`: the value of its operands' blocks and of its length. -/
def outAt (hO : Ok m) (c : Dev nD) (t : Fin (cfgM m hO).N) : Vec F S1x4096x512 .bf16 :=
  outG (lenW c (grid0.coords t) (tbl m 0)) (iblk m hO c 0 t) (iblk m hO c 1 t) (iblk m hO c 2 t) (iblk m hO c 3 t) (iblk m hO c 4 t)
    (k0_pay1 (iblk m hO c 5 t))

/-- The proof data of the one pipeline on core `c`: the arrays as the region finds them (`V`); after the body at
    point `t` each input's buffer at its block and the output's at its value; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outAt m hO c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
      unfold Dat.leavesExact; rw [liveAt0_0 m hO t]; try rfl, after0_0]
  rw [show (dats m hO 0 c).leavesExact 1 t = owns (c : Thread nD τ) (ms0_1 m hO t) fullShare ((dats m hO 0 c).after 1 t) from by
      unfold Dat.leavesExact; rw [liveAt0_1 m hO t]; try rfl, after0_1]
  rw [show (dats m hO 0 c).leavesExact 2 t = owns (c : Thread nD τ) (ms0_2 m hO t) fullShare ((dats m hO 0 c).after 2 t) from by
      unfold Dat.leavesExact; rw [liveAt0_2 m hO t]; try rfl, after0_2]
  rw [show (dats m hO 0 c).leavesExact 3 t = owns (c : Thread nD τ) (ms0_3 m hO t) fullShare ((dats m hO 0 c).after 3 t) from by
      unfold Dat.leavesExact; rw [liveAt0_3 m hO t]; try rfl, after0_3]
  rw [show (dats m hO 0 c).leavesExact 4 t = owns (c : Thread nD τ) (ms0_4 m hO t) fullShare ((dats m hO 0 c).after 4 t) from by
      unfold Dat.leavesExact; rw [liveAt0_4 m hO t]; try rfl, after0_4]
  rw [show (dats m hO 0 c).leavesExact 5 t = owns (c : Thread nD τ) (ms0_5 m hO t) fullShare ((dats m hO 0 c).after 5 t) from by
      unfold Dat.leavesExact; rw [liveAt0_5 m hO t]; try rfl, after0_5]
  rw [show (dats m hO 0 c).leavesExact 6 t = owns (c : Thread nD τ) (ms0_6 m hO t) fullShare ((dats m hO 0 c).after 6 t) from by
      unfold Dat.leavesExact; rw [show (cfgM m hO).idle 6 (grid0.coords t) = false from rfl]; try rfl, after0_6]
  unfold outAt
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk m hO c 0 t) (iblk m hO c 1 t) (iblk m hO c 2 t) (iblk m hO c 3 t) (iblk m hO c 4 t) (iblk m hO c 5 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HT0]; · iexact HT0
  iintro ⟨H0, H1, H2, H3, H4, H5, H6, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- the implicit arguments are found by unifying the conclusion with this one, which takes unfolding plain
-- definitions in a metavariable's type
set_option backward.isDefEq.respectTransparency.types false in
/-- The launch: every array of the pipeline at what the write-backs leave in it, every other unscoped buffer as the region found
    it, every semaphore counter zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- An input array ends as the region found it. -/
theorem arr_in (hO : Ok m) {r : PUnit × MemSt nD τ sig (Elt F)} (h : Pipeline.FramePost (Pipeline.pin pcfgs fun _ => adm m hO) (dats m hO) 0 (V m) r)
    (c : Dev nD) (w : Fin (cfgM m hO).W) (hin : ((cfgM m hO).win w).isOut = false) :
    r.2.mem (((cfgM m hO).spec w).arr.view.loc (c.tc : Thread nD τ)) = V m c (Pipeline.arrRef spec0 w) :=
  ((h c).1 w).trans (((dats m hO 0 c).arrAt_in w hin _).trans (A_eq m hO c w))

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(arr_in m hO h.1 c 3 rfl).trans (V_main_arg0 m c), (arr_in m hO h.1 c 4 rfl).trans (V_main_arg1 m c),
    (arr_in m hO h.1 c 5 rfl).trans (V_main_arg2 m c), (arr_in m hO h.1 c 0 rfl).trans (V_main_arg3 m c),
    (arr_in m hO h.1 c 1 rfl).trans (V_main_arg4 m c), (arr_in m hO h.1 c 2 rfl).trans (V_main_arg5 m c),
    ((h.1 c).2 main_arg6 (by decide : main_arg6 ∈ Pipeline.restRefs sig spec0)).trans (V_main_arg6 m c)⟩) (run_main_quiescent m ρ hO)

/-- THE FRAME: every run terminates, the argument arrays end unchanged, every semaphore counter is zero at the end. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Run

end
-- ==== Proof.Softmax.lean ====
/- The running softmax over the extended reals: how a maximum, a sum of weights and a weighted sum kept block by block come to the
   softmax of the whole row. -/
module

public import Idealize.ShloMosaic.PureOps.Ideal

@[expose] public section

noncomputable section

namespace Cert.Softmax

open Idealize.ShloMosaic
open scoped BigOperators

/-- `1 / ln 2`, the base-two logarithm of `e`. -/
abbrev κ : EReal := (((Real.log 2)⁻¹ : ℝ) : EReal)

/-- `1 / ln 2` is positive. -/
theorem log2_pos : (0 : ℝ) < (Real.log 2)⁻¹ := inv_pos.mpr (Real.log_pos (by norm_num))

/-- A score less a bound of it is at most zero. -/
theorem sub_nonpos_of_le {s m : EReal} (h : s ≤ m) : s - m ≤ 0 := by
  induction m with
  | bot => rw [le_bot_iff.mp h]; simp
  | top => simp
  | coe m =>
    induction s with
    | bot => simp
    | top => simp at h
    | coe s =>
      have : s ≤ m := by exact_mod_cast h
      have h2 : s - m ≤ 0 := by linarith
      exact_mod_cast h2

/-- A weight is not negative. -/
theorem exp2_nonneg (x : EReal) : 0 ≤ Ideal.exp2 x := by
  induction x with
  | bot => simp
  | top => simp
  | coe x => simp only [Ideal.exp2_coe]; exact_mod_cast Real.rpow_nonneg (by norm_num) x

/-- A weight at a nonpositive exponent is finite. -/
theorem exp2_ne_top {x : EReal} (h : x ≤ 0) : Ideal.exp2 x ≠ ⊤ := by
  induction x with
  | bot => simp
  | top => simp at h
  | coe x => simp only [Ideal.exp2_coe]; exact EReal.coe_ne_top _

/-- Rescaling a weight from one maximum to a later one. -/
theorem exp2_rescale {s m m' : EReal} (h : s ≤ m) (h' : m ≤ m') :
    Ideal.exp2 (s - m) * Ideal.exp2 (m - m') = Ideal.exp2 (s - m') := by
  induction m' with
  | bot =>
    have hm : m = ⊥ := le_bot_iff.mp h'
    subst hm
    have hs : s = ⊥ := le_bot_iff.mp h
    subst hs; simp
  | top => simp
  | coe m' =>
    induction m with
    | bot => rw [le_bot_iff.mp h]; simp
    | top => simp at h'
    | coe m =>
      induction s with
      | bot => simp
      | top => simp at h
      | coe s =>
        have e1 : ((s : EReal) - (m : EReal)) = ((s - m : ℝ) : EReal) := rfl
        have e2 : ((m : EReal) - (m' : EReal)) = ((m - m' : ℝ) : EReal) := rfl
        have e3 : ((s : EReal) - (m' : EReal)) = ((s - m' : ℝ) : EReal) := rfl
        rw [e1, e2, e3]
        simp only [Ideal.exp2_coe]
        rw [← EReal.coe_mul]
        congr 1
        have := Real.rpow_add (show (0 : ℝ) < 2 by norm_num) (s - m) (m - m')
        simp only [Real.rpow_eq_pow]
        rw [← this]; congr 1; ring

/-- A finite factor that is not negative goes into a finite sum. -/
theorem sum_mul {ι : Type} (A : Finset ι) (f : ι → EReal) {a : EReal} (h0 : 0 ≤ a) (ht : a ≠ ⊤) :
    (∑ j ∈ A, f j) * a = ∑ j ∈ A, f j * a := by
  classical
  induction A using Finset.induction_on with
  | empty => simp
  | insert i A hi ih =>
    rw [Finset.sum_insert hi, Finset.sum_insert hi, EReal.right_distrib_of_nonneg_of_ne_top h0 ht, ih]

/-- The state of the running softmax over the keys `A`: the maximum of the scores, the sum of the weights at that maximum, the sum of
    the values by those weights. -/
structure St {ι : Type} (s w : ι → EReal) (A : Finset ι) (m l o : EReal) : Prop where
  hm : m = A.sup s
  hl : l = ∑ j ∈ A, Ideal.exp2 (s j - m)
  ho : o = ∑ j ∈ A, w j * Ideal.exp2 (s j - m)

/-- Over no key: the maximum is bottom and the sums are zero. -/
theorem St.init {ι : Type} (s w : ι → EReal) : St s w ∅ ⊥ 0 0 := ⟨by simp, by simp, by simp⟩

/-- One more block of keys. -/
theorem St.step {ι : Type} [DecidableEq ι] {s w : ι → EReal} {A : Finset ι} {m l o : EReal} (h : St s w A m l o) (B : Finset ι)
    (hd : Disjoint A B) :
    St s w (A ∪ B) (max m (B.sup s))
      (l * Ideal.exp2 (m - max m (B.sup s)) + ∑ j ∈ B, Ideal.exp2 (s j - max m (B.sup s)))
      (o * Ideal.exp2 (m - max m (B.sup s)) + ∑ j ∈ B, w j * Ideal.exp2 (s j - max m (B.sup s))) := by
  have hle : m ≤ max m (B.sup s) := le_max_left _ _
  have hA : ∀ j ∈ A, s j ≤ m := fun j hj => h.hm ▸ Finset.le_sup hj
  have h0 := exp2_nonneg (m - max m (B.sup s))
  have ht : Ideal.exp2 (m - max m (B.sup s)) ≠ ⊤ := exp2_ne_top (sub_nonpos_of_le hle)
  refine ⟨?_, ?_, ?_⟩
  · rw [Finset.sup_union, ← h.hm]
  · rw [Finset.sum_union hd, h.hl, sum_mul A _ h0 ht]
    congr 1
    exact Finset.sum_congr rfl fun j hj => exp2_rescale (hA j hj) hle
  · rw [Finset.sum_union hd, h.ho, sum_mul A _ h0 ht]
    congr 1
    refine Finset.sum_congr rfl fun j hj => ?_
    rw [mul_assoc, exp2_rescale (hA j hj) hle]

/-- The factor comes out of a difference. -/
theorem sub_mul_κ (s m : EReal) : s * κ - m * κ = (s - m) * κ := by
  rw [sub_eq_add_neg, sub_eq_add_neg, ← EReal.neg_mul,
    EReal.right_distrib_of_nonneg_of_ne_top (EReal.coe_nonneg.mpr log2_pos.le) (EReal.coe_ne_top _)]

/-- A power of two at a score in base two is the exponential of the score. -/
theorem exp2_mul_κ (y : EReal) : Ideal.exp2 (y * κ) = Ideal.exp y := by
  induction y with
  | bot => rw [EReal.bot_mul_coe_of_pos log2_pos]; rfl
  | top => rw [EReal.top_mul_coe_of_pos log2_pos]; rfl
  | coe y =>
    rw [κ, ← EReal.coe_mul, Ideal.exp2_coe]
    show _ = ((Real.exp y : ℝ) : EReal)
    congr 1
    rw [Real.rpow_eq_pow, Real.rpow_def_of_pos (by norm_num)]
    congr 1
    have : Real.log 2 ≠ 0 := (Real.log_pos (by norm_num)).ne'
    field_simp

/-- Multiplying by the factor keeps the order. -/
theorem mul_κ_mono : Monotone fun y : EReal => y * κ := fun _ _ h =>
  mul_le_mul_of_nonneg_right h (EReal.coe_nonneg.mpr log2_pos.le)

/-- The factor comes out of a maximum. -/
theorem sup_mul_κ {ι : Type} (A : Finset ι) (t : ι → EReal) : (A.sup fun j => t j * κ) = A.sup t * κ := by
  classical
  induction A using Finset.induction_on with
  | empty => simp [EReal.bot_mul_coe_of_pos log2_pos]
  | insert i A hi ih =>
    rw [Finset.sup_insert, Finset.sup_insert, ih]
    exact (mul_κ_mono.map_sup _ _).symm

/-- A weight in base `e` is not negative. -/
theorem exp_nonneg (x : EReal) : 0 ≤ Ideal.exp x := by rw [← exp2_mul_κ]; exact exp2_nonneg _

/-- A sum of finite nonnegative terms is finite. -/
theorem sum_ne_top {ι : Type} (A : Finset ι) (f : ι → EReal) (h0 : ∀ j ∈ A, 0 ≤ f j) (ht : ∀ j ∈ A, f j ≠ ⊤) : (∑ j ∈ A, f j) ≠ ⊤ := by
  classical
  induction A using Finset.induction_on with
  | empty => simp
  | insert i A hi ih =>
    rw [Finset.sum_insert hi]
    refine (EReal.add_lt_top (ht i (Finset.mem_insert_self _ _)) (ih (fun j hj => h0 j (Finset.mem_insert_of_mem hj))
      fun j hj => ht j (Finset.mem_insert_of_mem hj))).ne

/-- The state after the visible keys gives the softmax of the whole row: the scores `t` of a row, in base two `s` on the visible
    keys `A`, at minus infinity elsewhere. -/
theorem St.final {ι : Type} [Fintype ι] {s t w : ι → EReal} {A : Finset ι} {m l o : EReal} (h : St s w A m l o)
    (hs : ∀ j ∈ A, s j = t j * κ) (hout : ∀ j, j ∉ A → t j = ⊥) (vs : EReal) :
    o * Ideal.div vs l
      = (∑ j, Ideal.div (Ideal.exp (t j - Finset.univ.sup t))
          (if (∑ j, Ideal.exp (t j - Finset.univ.sup t)) = 0 then 1 else ∑ j, Ideal.exp (t j - Finset.univ.sup t)) * w j) * vs := by
  classical
  have hM : Finset.univ.sup t = A.sup t := by
    refine le_antisymm (Finset.sup_le fun j _ => ?_) (Finset.sup_mono (Finset.subset_univ _))
    by_cases hj : j ∈ A
    · exact Finset.le_sup hj
    · rw [hout j hj]; exact bot_le
  have hm : m = A.sup t * κ := by rw [h.hm, ← sup_mul_κ]; exact Finset.sup_congr rfl hs
  have he : ∀ j ∈ A, Ideal.exp2 (s j - m) = Ideal.exp (t j - Finset.univ.sup t) := fun j hj => by
    rw [hs j hj, hm, hM, sub_mul_κ, exp2_mul_κ]
  have hz : ∀ j, j ∉ A → Ideal.exp (t j - Finset.univ.sup t) = 0 := fun j hj => by
    rw [hout j hj, EReal.bot_sub]; rfl
  have hl : l = ∑ j, Ideal.exp (t j - Finset.univ.sup t) := by
    rw [h.hl, Finset.sum_congr rfl he]
    exact Finset.sum_subset (Finset.subset_univ _) fun j _ hj => hz j hj
  have ho : o = ∑ j, w j * Ideal.exp (t j - Finset.univ.sup t) := by
    rw [h.ho, Finset.sum_congr rfl fun j hj => by rw [he j hj]]
    exact Finset.sum_subset (Finset.subset_univ _) fun j _ hj => by rw [hz j hj, mul_zero]
  rw [← hl]
  have hnn : ∀ j, 0 ≤ Ideal.exp (t j - Finset.univ.sup t) := fun j => exp_nonneg _
  have hnt : ∀ j, Ideal.exp (t j - Finset.univ.sup t) ≠ ⊤ := fun j => by
    rw [← exp2_mul_κ]
    refine exp2_ne_top ?_
    have h1 : t j - Finset.univ.sup t ≤ 0 := sub_nonpos_of_le (Finset.le_sup (Finset.mem_univ j))
    have := mul_κ_mono h1
    simpa using this
  by_cases h0 : l = 0
  · have hall : ∀ j, Ideal.exp (t j - Finset.univ.sup t) = 0 := fun j =>
      (Finset.sum_eq_zero_iff_of_nonneg fun j _ => hnn j).mp (hl.symm.trans h0) j (Finset.mem_univ j)
    have ho0 : o = 0 := by rw [ho]; exact Finset.sum_eq_zero fun j _ => by rw [hall j, mul_zero]
    rw [ho0, zero_mul, if_pos h0]
    rw [Finset.sum_eq_zero fun j _ => ?_, zero_mul]
    rw [hall j]
    rw [Ideal.div, if_neg one_ne_zero, zero_mul, zero_mul]
  · rw [if_neg h0]
    have hl0 : 0 ≤ l := hl ▸ Finset.sum_nonneg fun j _ => hnn j
    have hlt : l ≠ ⊤ := hl ▸ sum_ne_top _ _ (fun j _ => hnn j) fun j _ => hnt j
    have hi0 : 0 ≤ l⁻¹ := EReal.inv_nonneg_of_nonneg hl0
    have hit : l⁻¹ ≠ ⊤ := by
      intro e
      induction l with
      | bot => simp at hl0
      | top => exact hlt rfl
      | coe l => rw [← EReal.coe_inv] at e; exact EReal.coe_ne_top _ e
    rw [Ideal.div, if_neg h0, ho, mul_comm vs, ← mul_assoc, sum_mul _ _ hi0 hit]
    congr 1
    refine Finset.sum_congr rfl fun j _ => ?_
    rw [Ideal.div, if_neg h0, mul_comm (w j), mul_assoc, mul_assoc, mul_comm (w j)]

/-- The scores of the row `r` against every key: those of the keys after the row are masked away. -/
def rowT (Q : Fin 64 → EReal) (K : Fin 4096 → Fin 64 → EReal) (c : EReal) (r : ℕ) (j : Fin 4096) : EReal :=
  if j.val ≤ r then (∑ e, Q e * K j e) * c else ⊥

/-- The softmax of the scores `t` applied to the values `w`, times the scale of the values. -/
def attend (t w : Fin 4096 → EReal) (vs : EReal) : EReal :=
  (∑ j, Ideal.div (Ideal.exp (t j - Finset.univ.sup t))
    (if (∑ j, Ideal.exp (t j - Finset.univ.sup t)) = 0 then 1 else ∑ j, Ideal.exp (t j - Finset.univ.sup t)) * w j) * vs

/-- Where the greatest score is finite the sum of the weights is not zero, so that the choice in `attend` between the sum and one is the sum. -/
theorem total_ne_zero (t : Fin 4096 → EReal) (hb : Finset.univ.sup t ≠ ⊥) (ht : Finset.univ.sup t ≠ ⊤) :
    (∑ j, Ideal.exp (t j - Finset.univ.sup t)) ≠ 0 := by
  intro h0
  obtain ⟨j, -, hj⟩ := Finset.exists_mem_eq_sup Finset.univ Finset.univ_nonempty t
  have hz := (Finset.sum_eq_zero_iff_of_nonneg fun j _ => exp_nonneg _).mp h0 j (Finset.mem_univ j)
  rw [← hj, EReal.sub_self ht hb] at hz
  have h1 : Ideal.exp ((0 : ℝ) : EReal) = ((Real.exp 0 : ℝ) : EReal) := rfl
  rw [EReal.coe_zero] at h1
  rw [h1, Real.exp_zero] at hz
  exact one_ne_zero hz

/-- The attention of one batch at row `r` and column `c` (head `c / 64`, dimension `c % 64`): zero from the row `len` on. -/
def attnAt (x : Fin 4096 → Fin 512 → EReal) (k v : Fin 4096 → Fin 64 → EReal) (qs : Fin 8 → EReal) (ks vs : EReal) (len : BitVec 32)
    (r : Fin 4096) (c : Fin 512) : EReal :=
  if (BitVec.ofNat 32 r.val).toInt < len.toInt then
    attend (rowT (fun e => x r ⟨c.val / 64 * 64 + e.val, by omega⟩) k (qs ⟨c.val / 64, by omega⟩ * ks * Ideal.ofBits .f32 0x3E000000#32) r.val)
      (fun j => v j ⟨c.val % 64, by omega⟩) vs
  else 0

end Cert.Softmax

end
-- ==== Proof.KernelIdealPoint.lean ====
/- `KernelIdeal`'s block of one pair of heads read at an index over the extended reals: one lane of the kernel's running softmax is the
   running softmax of the row it belongs to. -/
module

public import proofs.«01_k».proof.Proof.KernelIdealTrip
public import proofs.«01_k».proof.Proof.Softmax
public import Idealize.ShloMosaic.Lib.Pointwise

@[expose] public section

set_option maxRecDepth 16384

noncomputable section

namespace Cert.KernelIdeal.Run

open Cert.KernelIdeal Cert.KernelIdeal.Gen
open Cert.Softmax hiding κ
open Idealize.ShloMosaic
open scoped BigOperators

/-- The pattern of minus infinity is the bottom of the extended reals. -/
theorem ofBits_bot : Ideal.ofBits .f32 0xFF800000#32 = ⊥ := by
  simp [Ideal.ofBits, Ideal.ieee]

/-- The scratch holds the values transposed. -/
theorem pay1_at (v : Vec Ideal S1x4096x64 .fp8e4m3) (d : Fin 64) (j : Fin 4096) :
    k0_pay1 (F := Ideal) v (ix2 d j) = v (ix3 0 j d) := by
  pointwise [k0_pay1]

/-- The stacked queries of pair `p`: lane `l` is row `l % 128` of head `2 p + l / 128`. -/
theorem qsel_at (raw : Vec Ideal S1x128x512 .fp8e4m3) (p : ℕ) (hp : p < 4) (l : Fin 256) (e : Fin 64) :
    qsel raw p (ix2 l e) = raw (ix3 0 ⟨l.val % 128, by omega⟩ ⟨(2 * p + l.val / 128) * 64 + e.val, by omega⟩) := by
  have key : ∀ (a a' : Fin 128) (b b' : Fin 512), a.val = a'.val → b.val = b'.val → raw (ix3 0 a b) = raw (ix3 0 a' b') := by
    intro a a' b b' h h'; rw [Fin.ext h, Fin.ext h']
  unfold qsel
  rcases (by omega : p = 0 ∨ p = 1 ∨ p = 2 ∨ p = 3) with rfl | rfl | rfl | rfl
  · rw [if_pos rfl]
    pointwise [k0_pay19, k0_pay17]
    split <;> exact key _ _ _ _ (by simp only []; omega) (by simp only []; omega)
  · rw [if_neg (by decide), if_pos rfl]
    pointwise [k0_pay46, k0_pay17]
    split <;> exact key _ _ _ _ (by simp only []; omega) (by simp only []; omega)
  · rw [if_neg (by decide), if_neg (by decide), if_pos rfl]
    pointwise [k0_pay71, k0_pay17]
    split <;> exact key _ _ _ _ (by simp only []; omega) (by simp only []; omega)
  · rw [if_neg (by decide), if_neg (by decide), if_neg (by decide)]
    pointwise [k0_pay96, k0_pay17]
    split <;> exact key _ _ _ _ (by simp only []; omega) (by simp only []; omega)

/-- A 32-bit word of a small number, compared and read as an integer. -/
theorem toInt_ofNat {n : ℕ} (h : n < 2 ^ 31) : (BitVec.ofNat 32 n).toInt = n := by
  rw [BitVec.toInt_eq_toNat_cond, BitVec.toNat_ofNat, Nat.mod_eq_of_lt (by omega), if_pos (by omega)]

/-- The scale of lane `l`. -/
theorem pay20_at (a b c : EReal) (l : Fin 256) :
    k0_pay20 (F := Ideal) a b c (ix2 0 l)
      = (if l.val < 128 then a else b) * c * Ideal.ofBits .f32 0x3E000000#32 * Cert.Softmax.κ := by
  pointwise [k0_pay20]
  rw [show Named.named (F := Ideal) (φ := .f32) Cert.KernelIdeal.κ "log2_e" 1069066811#32 = Cert.Softmax.κ from
    IdealRules.named_const.ideal_named_scalar (φ := .f32) Cert.KernelIdeal.κ "log2_e" _ _ rfl]
  congr 3
  by_cases h : l.val < 128
  · rw [if_pos h]
    simp [Scalar.select, IntOp.cmpi, BitVec.slt, toInt_ofNat (n := l.val) (by omega), h]
  · rw [if_neg h]
    simp [Scalar.select, IntOp.cmpi, BitVec.slt, toInt_ofNat (n := l.val) (by omega), h]

/-- A score before the mask, at a key and a lane. -/
theorem score_at (q : FVec Ideal S256x64 .fp8e4m3) (cc : FVec Ideal S1x256 .f32) (kb : Vec Ideal S1x256x64 .fp8e4m3) (i l : Fin 256) :
    score (F := Ideal) q cc kb (ix2 i l) = (∑ x : Fin 64, kb (ix3 0 i x) * q (ix2 l x)) * cc (ix2 0 l) := by
  pointwise [score, k0_pay32]

/-- The new maximum of a lane: the old one against the block's. -/
theorem stepM_at (s : FVec Ideal S256x256 .f32) (m : FVec Ideal S1x256 .f32) (l : Fin 256) :
    stepM s m (ix2 0 l) = max (m (ix2 0 l)) (Finset.univ.sup fun x : Fin 256 => s (ix2 x l)) := by
  pointwise [stepM]
  rw [ofBits_bot]; rfl

/-- The new sum of a lane: the old one rescaled, and the block's weights. -/
theorem stepL_at (s : FVec Ideal S256x256 .f32) (m l : FVec Ideal S1x256 .f32) (r : Fin 256) :
    stepL s m l (ix2 0 r) = l (ix2 0 r) * Ideal.exp2 (m (ix2 0 r) - stepM s m (ix2 0 r)) +
      ∑ x : Fin 256, Ideal.exp2 (s (ix2 x r) - stepM s m (ix2 0 r)) := by
  pointwise [stepL, stepA, stepP]
  rfl

/-- The new weighted sum of a lane: the old one rescaled, and the block's weighted values. -/
theorem stepO_at (s : FVec Ideal S256x256 .f32) (vb : Vec Ideal S64x256 .bf16) (m : FVec Ideal S1x256 .f32) (o : FVec Ideal S64x256 .f32)
    (d : Fin 64) (r : Fin 256) :
    stepO s vb m o (ix2 d r) = o (ix2 d r) * Ideal.exp2 (m (ix2 0 r) - stepM s m (ix2 0 r)) +
      ∑ x : Fin 256, vb (ix2 d x) * Ideal.exp2 (s (ix2 x r) - stepM s m (ix2 0 r)) := by
  pointwise [stepO, stepA, stepP]
  rfl

/-! ## One lane -/

/-- Key `i` of block `j`. -/
def keyOf (j : Fin 16) (i : Fin 256) : Fin 4096 := ⟨256 * j.val + i.val, by omega⟩

/-- Distinct places in a block are distinct keys. -/
theorem keyOf_inj (j : Fin 16) : Function.Injective (keyOf j) := by
  intro a b h
  have := congrArg Fin.val h
  simp only [keyOf] at this
  exact Fin.ext (by omega)

/-- The keys of block `j`. -/
def keys (j : Fin 16) : Finset (Fin 4096) := Finset.univ.map ⟨keyOf j, keyOf_inj j⟩

/-- Block `j` holds the keys whose number over 256 is `j`. -/
theorem mem_keys (j : Fin 16) (x : Fin 4096) : x ∈ keys j ↔ x.val / 256 = j.val := by
  simp only [keys, Finset.mem_map, Finset.mem_univ, true_and, Function.Embedding.coeFn_mk]
  constructor
  · rintro ⟨i, rfl⟩; simp only [keyOf]; omega
  · intro h; exact ⟨⟨x.val % 256, by omega⟩, Fin.ext (by simp only [keyOf]; omega)⟩

/-- Lane `l`, dimension `d` of the running state is the running softmax over the keys `A`. -/
abbrev LaneSt (s w : Fin 4096 → EReal) (A : Finset (Fin 4096)) (l : Fin 256) (d : Fin 64) (a : Acc Ideal) : Prop :=
  St s w A (a.1 (ix2 0 l)) (a.2.1 (ix2 0 l)) (a.2.2 (ix2 d l))

/-- One block of keys takes the running softmax of a lane one block further. -/
theorem LaneSt.step {s w : Fin 4096 → EReal} {A : Finset (Fin 4096)} {l : Fin 256} {d : Fin 64} {a : Acc Ideal} (h : LaneSt s w A l d a)
    (j : Fin 16) (hd : Disjoint A (keys j)) (sc : FVec Ideal S256x256 .f32) (vb : Vec Ideal S64x256 .bf16)
    (hs : ∀ i, sc (ix2 i l) = s (keyOf j i)) (hv : ∀ i, vb (ix2 d i) = w (keyOf j i)) :
    LaneSt s w (A ∪ keys j) l d (stepS sc vb a) := by
  have := St.step h (keys j) hd
  unfold LaneSt stepS
  simp only [stepL_at, stepO_at, stepM_at, hs, hv]
  simpa only [keys, Finset.sup_map, Finset.sum_map, Function.comp_def, Function.Embedding.coeFn_mk] using this

/-- Before any block the running softmax is over no key. -/
theorem LaneSt.init (s w : Fin 4096 → EReal) (l : Fin 256) (d : Fin 64) :
    LaneSt s w ∅ l d ((k0_pay21, k0_pay22, k0_pay23) : Acc Ideal) := by
  have h1 : (k0_pay21 : FVec Ideal S1x256 .f32) (ix2 0 l) = ⊥ := by
    pointwise [k0_pay21]; exact ofBits_bot
  have h2 : (k0_pay22 : FVec Ideal S1x256 .f32) (ix2 0 l) = 0 := by
    pointwise [k0_pay22]
  have h3 : (k0_pay23 : FVec Ideal S64x256 .f32) (ix2 d l) = 0 := by
    pointwise [k0_pay23]
  unfold LaneSt
  simp only [h1, h2, h3]
  exact St.init s w

/-- The keys of the blocks below `n`. -/
def keysBelow (n : ℕ) : Finset (Fin 4096) := Finset.univ.filter fun x => x.val / 256 < n

/-- The running softmax after the diagonal block and `n` blocks from the first on. -/
theorem LaneSt.runN {s w : Fin 4096 → EReal} {l : Fin 256} {d : Fin 64} {a : Acc Ideal} {q : FVec Ideal S256x64 .fp8e4m3}
    {cc : FVec Ideal S1x256 .f32} {kb : ℕ → Vec Ideal S1x256x64 .fp8e4m3} {vb : ℕ → Vec Ideal S64x256 .bf16} (D : Fin 16)
    (h : LaneSt s w (keys D) l d a) (n : ℕ) (hn : n ≤ D.val)
    (hs : ∀ j : Fin 16, j.val < n → ∀ i, score q cc (kb j.val) (ix2 i l) = s (keyOf j i))
    (hv : ∀ j : Fin 16, j.val < n → ∀ i, vb j.val (ix2 d i) = w (keyOf j i)) :
    LaneSt s w (keys D ∪ keysBelow n) l d (runN q cc kb vb a n) := by
  induction n with
  | zero =>
    have : keysBelow 0 = ∅ := by ext x; simp [keysBelow]
    rw [this, Finset.union_empty]; exact h
  | succ n ih =>
    have h' := ih (by omega) (fun j hj => hs j (by omega)) (fun j hj => hv j (by omega))
    have hj : n < 16 := by omega
    have := LaneSt.step h' ⟨n, hj⟩ (by
      rw [Finset.disjoint_left]
      intro x hx hx'
      rw [mem_keys] at hx'
      rw [Finset.mem_union, mem_keys] at hx
      simp only [keysBelow, Finset.mem_filter, Finset.mem_univ, true_and] at hx
      simp only [] at hx'
      omega) (score q cc (kb n)) (vb n) (hs ⟨n, hj⟩ (Nat.lt_succ_self n)) (hv ⟨n, hj⟩ (Nat.lt_succ_self n))
    have e : keys D ∪ keysBelow (n + 1) = (keys D ∪ keysBelow n) ∪ keys ⟨n, hj⟩ := by
      ext x
      simp only [Finset.mem_union, mem_keys, keysBelow, Finset.mem_filter, Finset.mem_univ, true_and]
      omega
    rw [e]
    exact this

/-! ## The masks -/

/-- The first query of block `k` is row `128 * k`, as a word. -/
theorem q0w_eq (k : Fin k0_t1_loop.trips) : q0w k = BitVec.ofNat 32 (128 * k.val) := by
  have : ∀ k : Fin 32, Scalar.muli (Scf.iv 0#32 1#32 k) 128#32 = BitVec.ofNat 32 (128 * k.val) := by decide +kernel
  exact this ⟨k.val, Nat.lt_of_lt_of_eq k.isLt trips_t1⟩

/-- The first key of the diagonal block, as a word. -/
theorem q0w_div (k : Fin k0_t1_loop.trips) :
    Scalar.muli (Scalar.divsi (q0w k) 256#32) 256#32 = BitVec.ofNat 32 (256 * (k.val / 2)) := by
  rw [q0w_eq]
  have : ∀ k : Fin 32, Scalar.muli (Scalar.divsi (BitVec.ofNat 32 (128 * k.val)) 256#32) 256#32 = BitVec.ofNat 32 (256 * (k.val / 2)) := by
    decide +kernel
  exact this ⟨k.val, Nat.lt_of_lt_of_eq k.isLt trips_t1⟩

/-- A lane's row inside its block, as a word. -/
theorem lane_rem (l : Fin 256) : IntOp.remsi ArithUnit.vector (BitVec.ofNat 32 l.val) 128#32 = BitVec.ofNat 32 (l.val % 128) := by
  revert l; decide +kernel

/-- The signed comparison of small words is that of the numbers. -/
theorem sle_ofNat {a b : ℕ} (ha : a < 2 ^ 31) (hb : b < 2 ^ 31) :
    IntOp.cmpi .sle (BitVec.ofNat 32 a) (BitVec.ofNat 32 b) = if a ≤ b then 1#1 else 0#1 := by
  by_cases h : a ≤ b <;> simp [IntOp.cmpi, BitVec.sle, toInt_ofNat ha, toInt_ofNat hb, h]

/-- The mask of the diagonal block: the keys at or below the query's row. -/
theorem pay25_at (k : Fin k0_t1_loop.trips) (i l : Fin 256) :
    k0_pay25 (q0w k) (ix2 i l) = if 256 * (k.val / 2) + i.val ≤ 128 * k.val + l.val % 128 then 1#1 else 0#1 := by
  have hk := Nat.lt_of_lt_of_eq k.isLt trips_t1
  pointwise [k0_pay25, k0_pay18]
  rw [q0w_div, lane_rem, q0w_eq, show ∀ a b : BitVec 32, IntOp.addi a b = a + b from fun _ _ => rfl,
    show ∀ a b : BitVec 32, IntOp.addi a b = a + b from fun _ _ => rfl, ← BitVec.ofNat_add, ← BitVec.ofNat_add, sle_ofNat (by omega) (by omega)]
  simp only [Nat.add_comm]

/-- A choice by the signed comparison of words. -/
theorem slt_ofNat {a : ℕ} (v1 : BitVec 32) (x y : EReal) :
    Scalar.select (IntOp.cmpi .slt (BitVec.ofNat 32 a) v1) x y = if (BitVec.ofNat 32 a).toInt < v1.toInt then x else y := by
  by_cases h : (BitVec.ofNat 32 a).toInt < v1.toInt <;> simp [Scalar.select, IntOp.cmpi, BitVec.slt, h]

/-! ## The operands' blocks -/

/-- The rows of queries of trip `k`, in the operand. -/
theorem xrows_at (x : Vec Ideal S1x4096x512 .fp8e4m3) (k : Fin k0_t1_loop.trips) (a : Fin 128) (b : Fin 512) (r : Fin 4096)
    (hr : r.val = 128 * k.val + a.val) :
    x ((Rect.unit (s := S1x4096x512) (k0_off2 k) S1x128x512.size (k0_off2_inb k)).idx (ix3 0 a b)) = x (ix3 0 r b) := by
  refine congrArg x (funext fun c => Fin.ext ?_)
  refine Eq.trans (congrArg (· + 1 * (ix3 (n0 := 1) 0 a b c).val) (congrFun (off2_eq k) c)) ?_
  fin_cases c
  · rfl
  · show 128 * k.val + 1 * a.val = r.val; omega
  · show 0 + 1 * b.val = b.val; omega

/-- The diagonal block of keys, in the operand. -/
theorem kdiag_at (kv : Vec Ideal S1x4096x64 .fp8e4m3) (k : Fin k0_t1_loop.trips) (i : Fin 256) (e : Fin 64) (D : Fin 16)
    (hD : D.val = k.val / 2) :
    kv ((Rect.unit (s := S1x4096x64) (k0_off3 k) S1x256x64.size (k0_off3_inb k)).idx (ix3 0 i e)) = kv (ix3 0 (keyOf D i) e) := by
  refine congrArg kv (funext fun c => Fin.ext ?_)
  refine Eq.trans (congrArg (· + 1 * (ix3 (n0 := 1) 0 i e c).val) (congrFun (off3_eq k) c)) ?_
  fin_cases c
  · rfl
  · show 256 * (k.val / 2) + 1 * i.val = 256 * D.val + i.val; omega
  · show 0 + 1 * e.val = e.val; omega

/-- The diagonal block of values, in the operand. -/
theorem vdiag_at (vt : Vec Ideal S64x4096 .bf16) (k : Fin k0_t1_loop.trips) (d : Fin 64) (i : Fin 256) (D : Fin 16)
    (hD : D.val = k.val / 2) :
    vt ((Rect.unit (s := S64x4096) (k0_off4 k) S64x256.size (k0_off4_inb k)).idx (ix2 d i)) = vt (ix2 d (keyOf D i)) := by
  refine congrArg vt (funext fun c => Fin.ext ?_)
  refine Eq.trans (congrArg (· + 1 * (ix2 d i c).val) (congrFun (off4_eq k) c)) ?_
  fin_cases c
  · show 0 + 1 * d.val = d.val; omega
  · show 256 * (k.val / 2) + 1 * i.val = 256 * D.val + i.val; omega

/-- Block `j` of the keys, in the operand. -/
theorem kblk_at (kv : Vec Ideal S1x4096x64 .fp8e4m3) (j : Fin 16) (i : Fin 256) (e : Fin 64) :
    kv ((Rect.unit (s := S1x4096x64) ![0, 256 * (j.val % 16), 0] S1x256x64.size (kblk_inb j.val)).idx (ix3 0 i e))
      = kv (ix3 0 (keyOf j i) e) := by
  refine congrArg kv (funext fun c => Fin.ext ?_)
  fin_cases c
  · rfl
  · show 256 * (j.val % 16) + 1 * i.val = 256 * j.val + i.val; omega
  · show 0 + 1 * e.val = e.val; omega

/-- Block `j` of the values, in the operand. -/
theorem vblk_at (vt : Vec Ideal S64x4096 .bf16) (j : Fin 16) (d : Fin 64) (i : Fin 256) :
    vt ((Rect.unit (s := S64x4096) ![0, 256 * (j.val % 16)] S64x256.size (vblk_inb j.val)).idx (ix2 d i)) = vt (ix2 d (keyOf j i)) := by
  refine congrArg vt (funext fun c => Fin.ext ?_)
  fin_cases c
  · show 0 + 1 * d.val = d.val; omega
  · show 256 * (j.val % 16) + 1 * i.val = 256 * j.val + i.val; omega

/-! ## The block of one pair of heads -/

/-- A masked score stays masked in base two. -/
theorem bot_mul_κ : (⊥ : EReal) * Cert.Softmax.κ = ⊥ := EReal.bot_mul_coe_of_pos log2_pos

/-- A block's score in lane `l` is the row's score, times the base-two logarithm of `e`. -/
theorem score_row (q : FVec Ideal S256x64 .fp8e4m3) (cc : FVec Ideal S1x256 .f32) (kb : Vec Ideal S1x256x64 .fp8e4m3) (l : Fin 256)
    (Q : Fin 64 → EReal) (K : Fin 4096 → Fin 64 → EReal) (c : EReal) (j : Fin 16)
    (hq : ∀ e, q (ix2 l e) = Q e) (hk : ∀ i e, kb (ix3 0 i e) = K (keyOf j i) e) (hc : cc (ix2 0 l) = c * Cert.Softmax.κ) (i : Fin 256) :
    score (F := Ideal) q cc kb (ix2 i l) = (∑ e, Q e * K (keyOf j i) e) * c * Cert.Softmax.κ := by
  rw [score_at, hc, ← mul_assoc]
  congr 2
  refine Finset.sum_congr rfl fun e _ => ?_
  rw [hk, hq, mul_comm]

/-- What a lane of the running softmax comes to: the row's attention. -/
theorem lane_attend (k : Fin k0_t1_loop.trips) (l : Fin 256) (d : Fin 64) (q : FVec Ideal S256x64 .fp8e4m3) (cc : FVec Ideal S1x256 .f32)
    (kd : Vec Ideal S1x256x64 .fp8e4m3) (vd : Vec Ideal S64x256 .bf16)
    (kb : ℕ → Vec Ideal S1x256x64 .fp8e4m3) (vb : ℕ → Vec Ideal S64x256 .bf16) (D : Fin 16) (hD : D.val = k.val / 2)
    (Q : Fin 64 → EReal) (K : Fin 4096 → Fin 64 → EReal) (w : Fin 4096 → EReal) (c vs : EReal)
    (hq : ∀ e, q (ix2 l e) = Q e) (hc : cc (ix2 0 l) = c * Cert.Softmax.κ)
    (hkd : ∀ i e, kd (ix3 0 i e) = K (keyOf D i) e) (hvd : ∀ i, vd (ix2 d i) = w (keyOf D i))
    (hkb : ∀ (j : Fin 16) i e, kb j.val (ix3 0 i e) = K (keyOf j i) e) (hvb : ∀ (j : Fin 16) i, vb j.val (ix2 d i) = w (keyOf j i)) :
    (runN q cc kb vb (run0 (q0w k) q cc kd vd) (k.val / 2)).2.2 (ix2 d l)
        * Ideal.div vs ((runN q cc kb vb (run0 (q0w k) q cc kd vd) (k.val / 2)).2.1 (ix2 0 l))
      = attend (rowT Q K c (128 * k.val + l.val % 128)) w vs := by
  have hk := Nat.lt_of_lt_of_eq k.isLt trips_t1
  set r := 128 * k.val + l.val % 128 with hr
  have h0 : LaneSt (fun j => rowT Q K c r j * Cert.Softmax.κ) w (keys D) l d (run0 (q0w k) q cc kd vd) := by
    have := LaneSt.step (LaneSt.init (fun j => rowT Q K c r j * Cert.Softmax.κ) w l d) D (Finset.disjoint_empty_left _)
      (scoreD (q0w k) q cc kd) vd (fun i => ?_) hvd
    · rw [Finset.empty_union] at this; exact this
    · unfold scoreD
      show Scalar.select (k0_pay25 (q0w k) (ix2 i l)) (score q cc kd (ix2 i l)) (Ideal.ofBits .f32 0xFF800000#32) = _
      rw [pay25_at, score_row q cc kd l Q K c D hq hkd hc, ofBits_bot]
      show _ = (if (keyOf D i).val ≤ r then _ else _) * _
      by_cases h : 256 * (k.val / 2) + i.val ≤ 128 * k.val + l.val % 128
      · rw [if_pos h, if_pos (show (keyOf D i).val ≤ r by simp only [keyOf]; omega)]; rfl
      · rw [if_neg h, if_neg (show ¬ (keyOf D i).val ≤ r by simp only [keyOf]; omega), bot_mul_κ]; rfl
  have h1 := LaneSt.runN (q := q) (cc := cc) (kb := kb) (vb := vb) D h0 (k.val / 2) (le_of_eq hD.symm) (fun j hj i => ?_) (fun j _ => hvb j)
  · refine St.final h1 (fun _ _ => rfl) (fun j hj => ?_) vs
    rw [Finset.mem_union, mem_keys] at hj
    simp only [keysBelow, Finset.mem_filter, Finset.mem_univ, true_and] at hj
    unfold rowT
    rw [if_neg (by omega)]
  · rw [score_row q cc (kb j.val) l Q K c j hq (hkb j) hc]
    unfold rowT
    rw [if_pos (show (keyOf j i).val ≤ r by simp only [keyOf]; omega)]

/-- The index of a head's scale. -/
theorem sIdx_eq (h : ℕ) (h8 : h < 8) : sIdx h = ix1 ⟨h, h8⟩ := by
  rw [ix1_eq_valueIdx]; exact congrArg ValueIdx.ix1 (Fin.ext (Nat.mod_eq_of_lt h8))

set_option maxHeartbeats 1000000 in
/-- What is stored of the state: at a row the length covers, the weighted sum over the sum; zero at the others. -/
theorem pay44_at (v1 : BitVec 32) (k : Fin k0_t1_loop.trips) (lac : FVec Ideal S1x256 .f32) (o : FVec Ideal S64x256 .f32) (vs : EReal)
    (rr cc : Fin 128) (l : Fin 256) (d : Fin 64) (hl : l.val = cc.val / 64 * 128 + rr.val) (hd : d.val = cc.val % 64) :
    k0_pay45 (F := Ideal) (k0_pay44 v1 (q0w k) lac o vs) (ix3 0 rr cc)
      = if (BitVec.ofNat 32 (128 * k.val + rr.val)).toInt < v1.toInt then o (ix2 d l) * Ideal.div vs (lac (ix2 0 l)) else 0 := by
  have hadd : ∀ n, IntOp.addi (BitVec.ofNat 32 n) (BitVec.ofNat 32 (128 * k.val)) = BitVec.ofNat 32 (128 * k.val + n) := fun n => by
    rw [show ∀ a b : BitVec 32, IntOp.addi a b = a + b from fun _ _ => rfl, ← BitVec.ofNat_add, Nat.add_comm]
  pointwise [k0_pay45, k0_pay44]
  split
  · rename_i h
    have e1 : IntOp.remsi ArithUnit.vector (BitVec.ofNat 32 rr.val) 128#32 = BitVec.ofNat 32 rr.val := by
      have := lane_rem ⟨rr.val, by omega⟩
      rwa [show rr.val % 128 = rr.val by omega] at this
    simp only [e1, q0w_eq, hadd]
    rw [slt_ofNat]
    have e2 : (⟨cc.val, h⟩ : Fin 64) = d := Fin.ext (by simp only []; omega)
    have e3 : (⟨rr.val, by omega⟩ : Fin 256) = l := Fin.ext (by simp only []; omega)
    rw [e2, e3]
  · rename_i h
    have e1 : IntOp.remsi ArithUnit.vector (BitVec.ofNat 32 (128 + rr.val)) 128#32 = BitVec.ofNat 32 rr.val := by
      have := lane_rem ⟨128 + rr.val, by omega⟩
      rwa [show (128 + rr.val) % 128 = rr.val by omega] at this
    simp only [e1, q0w_eq, hadd]
    rw [slt_ofNat]
    have e2 : (⟨cc.val - 64, by omega⟩ : Fin 64) = d := Fin.ext (by simp only []; omega)
    have e3 : (⟨128 + rr.val, by omega⟩ : Fin 256) = l := Fin.ext (by simp only []; omega)
    rw [e2, e3]

/-- The block of pair `p` of heads and queries' block `k`: every row the length covers is its row's attention, the others zero. -/
theorem pairG_at (v1 : BitVec 32) (xs : Vec Ideal S8 .f32) (ks vs : Vec Ideal S1 .f32) (x : Vec Ideal S1x4096x512 .fp8e4m3)
    (kv v : Vec Ideal S1x4096x64 .fp8e4m3) (p : ℕ) (hp : p < 4) (k : Fin k0_t1_loop.trips) (rr cc : Fin 128) (r : Fin 4096)
    (hr : r.val = 128 * k.val + rr.val) :
    pairG v1 xs ks vs x kv (k0_pay1 (F := Ideal) v) p k (ix3 0 rr cc)
      = if (BitVec.ofNat 32 r.val).toInt < v1.toInt then
          attend (rowT (fun e => x (ix3 0 r ⟨(2 * p + cc.val / 64) * 64 + e.val, by omega⟩)) (fun j e => kv (ix3 0 j e))
            (xs (ix1 ⟨2 * p + cc.val / 64, by omega⟩) * ks (ix1 0) * Ideal.ofBits .f32 0x3E000000#32) r.val)
            (fun j => v (ix3 0 j ⟨cc.val % 64, by omega⟩)) (vs (ix1 0))
        else 0 := by
  have hk := Nat.lt_of_lt_of_eq k.isLt trips_t1
  have lane := fun (l : Fin 256) (d : Fin 64) (hl : l.val = cc.val / 64 * 128 + rr.val) (hd : d.val = cc.val % 64) =>
    lane_attend k l d (qsel (fun i => x ((Rect.unit (s := S1x4096x512) (k0_off2 k) S1x128x512.size (k0_off2_inb k)).idx i)) p)
      (k0_pay20 (F := Ideal) (xs (sIdx (2 * p))) (xs (sIdx (2 * p + 1))) (ks (ValueIdx.ix1 ValueIdx.u0)))
      (fun i => kv ((Rect.unit (s := S1x4096x64) (k0_off3 k) S1x256x64.size (k0_off3_inb k)).idx i))
      (fun i => k0_pay1 (F := Ideal) v ((Rect.unit (s := S64x4096) (k0_off4 k) S64x256.size (k0_off4_inb k)).idx i))
      (fun j i => kv ((Rect.unit (s := S1x4096x64) ![0, 256 * (j % 16), 0] S1x256x64.size (kblk_inb j)).idx i))
      (fun j i => k0_pay1 (F := Ideal) v ((Rect.unit (s := S64x4096) ![0, 256 * (j % 16)] S64x256.size (vblk_inb j)).idx i))
      ⟨k.val / 2, by omega⟩ rfl
      (fun e => x (ix3 0 r ⟨(2 * p + cc.val / 64) * 64 + e.val, by omega⟩)) (fun j e => kv (ix3 0 j e))
      (fun j => v (ix3 0 j ⟨cc.val % 64, by omega⟩))
      (xs (ix1 ⟨2 * p + cc.val / 64, by omega⟩) * ks (ix1 0) * Ideal.ofBits .f32 0x3E000000#32) (vs (ix1 0))
      (fun e => by
        rw [qsel_at _ p hp, xrows_at x k _ _ r (by simp only []; omega)]
        refine congrArg (fun b => x (ix3 0 r b)) (Fin.ext ?_)
        simp only []; omega)
      (by
        rw [pay20_at, sIdx_eq (2 * p) (by omega), sIdx_eq (2 * p + 1) (by omega), ← ix1_eq_valueIdx]
        refine congrArg (· * _ * _ * _) ?_
        by_cases hc : cc.val / 64 = 0
        · rw [if_pos (by omega)]
          exact congrArg (fun b => xs (ix1 b)) (Fin.ext (by simp only []; omega))
        · rw [if_neg (by omega)]
          exact congrArg (fun b => xs (ix1 b)) (Fin.ext (by simp only []; omega)))
      (fun i e => kdiag_at kv k i e _ rfl)
      (fun i => by rw [vdiag_at (k0_pay1 (F := Ideal) v) k d i ⟨k.val / 2, by omega⟩ rfl, pay1_at]; exact congrArg (fun b => v (ix3 0 _ b)) (Fin.ext hd))
      (fun j i e => kblk_at kv j i e)
      (fun j i => by rw [vblk_at (k0_pay1 (F := Ideal) v), pay1_at]; exact congrArg (fun b => v (ix3 0 _ b)) (Fin.ext hd))
  have hlt : cc.val / 64 * 128 + rr.val < 256 := by omega
  unfold pairG pairOut
  rw [pay44_at v1 k _ _ _ rr cc ⟨cc.val / 64 * 128 + rr.val, hlt⟩ ⟨cc.val % 64, by omega⟩ rfl rfl, ← hr]
  have h := lane ⟨cc.val / 64 * 128 + rr.val, hlt⟩ ⟨cc.val % 64, by omega⟩ rfl rfl
  rw [show 128 * k.val + (cc.val / 64 * 128 + rr.val) % 128 = r.val by omega] at h
  refine if_congr Iff.rfl ?_ rfl
  exact h

/-- What the body leaves in the output's block: the attention of the batch. -/
theorem outG_at (v1 : BitVec 32) (xs : Vec Ideal S8 .f32) (ks vs : Vec Ideal S1 .f32) (x : Vec Ideal S1x4096x512 .fp8e4m3)
    (kv v : Vec Ideal S1x4096x64 .fp8e4m3) (r : Fin 4096) (c : Fin 512) :
    outG v1 xs ks vs x kv (k0_pay1 (F := Ideal) v) (ix3 0 r c)
      = attnAt (fun r c => x (ix3 0 r c)) (fun j e => kv (ix3 0 j e)) (fun j e => v (ix3 0 j e)) (fun h => xs (ix1 h)) (ks (ix1 0))
          (vs (ix1 0)) v1 r c := by
  unfold outG attnAt
  have hin : inPair (ix3 0 r c) = ix3 0 ⟨r.val % 128, Nat.mod_lt _ (by decide)⟩ ⟨c.val % 128, Nat.mod_lt _ (by decide)⟩ := by
    rw [ix3_eq_valueIdx]; rfl
  split
  · have h := pairG_at v1 xs ks vs x kv v (c.val / 128) (by omega) ⟨r.val / 128, row_lt (ix3 0 r c)⟩ ⟨r.val % 128, Nat.mod_lt _ (by decide)⟩
      ⟨c.val % 128, Nat.mod_lt _ (by decide)⟩ r (by simp only []; omega)
    rw [← hin] at h
    refine h.trans (if_congr Iff.rfl ?_ rfl)
    have e1 : 2 * (c.val / 128) + c.val % 128 / 64 = c.val / 64 := by omega
    have e2 : c.val % 128 % 64 = c.val % 64 := by omega
    simp only [e1, e2]
  · rename_i h
    rw [if_neg]
    · pointwise [k0_pay16]
    · intro hlt
      apply h
      have hk : r.val / 128 < 32 := by omega
      have h2 : (BitVec.ofNat 32 (128 * (r.val / 128))).slt v1 = true := by
        rw [BitVec.slt_eq_decide, decide_eq_true_eq, toInt_ofNat (by omega)]
        rw [toInt_ofNat (by omega)] at hlt
        have h0 : 128 * (r.val / 128) ≤ r.val := Nat.mul_div_le _ _
        exact lt_of_le_of_lt (by exact_mod_cast h0) hlt
      have h3 := q0w_eq ⟨r.val / 128, row_lt (ix3 0 r c)⟩
      simp only [] at h3
      rw [← h3] at h2
      unfold k0_cond1
      simp only [Scalar.cmpi, Scalar.extui, IntOp.cmpi]
      rw [show (Scalar.muli (Scf.iv 0#32 1#32 ((ix3 (n0 := 1) (n1 := 4096) (n2 := 512) 0 r c 1).val / 128)) 128#32).slt v1 = true from h2]
      decide

/-- `outG_at` with the operands named by what they hold. -/
theorem outG_attn {v1 n : BitVec 32} {xs : Vec Ideal S8 .f32} {ks vs : Vec Ideal S1 .f32} {x : Vec Ideal S1x4096x512 .fp8e4m3}
    {kv v : Vec Ideal S1x4096x64 .fp8e4m3} {X : Fin 4096 → Fin 512 → EReal} {K W : Fin 4096 → Fin 64 → EReal} {qs : Fin 8 → EReal}
    {a b : EReal} (hn : v1 = n) (hx : ∀ r c, x (ix3 0 r c) = X r c) (hk : ∀ j e, kv (ix3 0 j e) = K j e)
    (hw : ∀ j e, v (ix3 0 j e) = W j e) (hq : ∀ h, xs (ix1 h) = qs h) (ha : ks (ix1 0) = a) (hb : vs (ix1 0) = b)
    (r : Fin 4096) (c : Fin 512) :
    outG v1 xs ks vs x kv (k0_pay1 (F := Ideal) v) (ix3 0 r c) = attnAt X K W qs a b n r c := by
  rw [outG_at]
  simp only [hn, hx, hk, hw, hq, ha, hb]

end Cert.KernelIdeal.Run
-- ==== Proof.KernelIdealValue.lean ====
/- `KernelIdeal`'s result over the extended reals: the attention of every batch, index by index. -/
module

public import proofs.«01_k».proof.Proof.KernelIdealFrame
public import proofs.«01_k».proof.Proof.KernelIdealPoint

@[expose] public section

set_option maxRecDepth 16384

noncomputable section

namespace Cert.KernelIdeal.Run

open Cert.KernelIdeal Cert.KernelIdeal.Gen
open Cert.Softmax hiding κ
open Idealize.ShloMosaic Idealize.ShloMosaic.TcCoe Idealize.SL.Sem
open Idealize.ShloMosaic.Pipeline (Dat)

/-- The attention of every batch. -/
def attnG (x : Vec Ideal S9x4096x512 .fp8e4m3) (k v : Vec Ideal S9x4096x64 .fp8e4m3) (qs : Vec Ideal S8 .f32)
    (ks vs : Vec Ideal S1 .f32) (n : Vec Ideal S9 .i32) : Vec Ideal S9x4096x512 .bf16 := fun i =>
  attnAt (fun r c => x (ix3 (i 0) r c)) (fun j e => k (ix3 (i 0) j e)) (fun j e => v (ix3 (i 0) j e)) (fun h => qs (ix1 h)) (ks (ix1 0))
    (vs (ix1 0)) (n (ix1 (i 0))) (i 1) (i 2)

variable (m : (ℓ : Loc nD τ sig) → Buf (Elt Ideal) ℓ) (ρ : Dev nD → PrngReg)

/-- The coordinate of point `t` is `t`. -/
theorem coords_val : ∀ t : Fin grid0.N, ((grid0.coords t) 0).val = t.val := by decide +kernel

/-- This window is at batch `t` at point `t`. -/
theorem idx3 : ∀ t : Fin grid0.N, cc0_transform_3 (grid0.coords t) = ![t.val, 0, 0] := by decide +kernel
/-- This window is at batch `t` at point `t`. -/
theorem idx4 : ∀ t : Fin grid0.N, cc0_transform_4 (grid0.coords t) = ![t.val, 0, 0] := by decide +kernel
/-- This window is at batch `t` at point `t`. -/
theorem idx5 : ∀ t : Fin grid0.N, cc0_transform_5 (grid0.coords t) = ![t.val, 0, 0] := by decide +kernel
/-- This window is at batch `t` at point `t`. -/
theorem idx6 : ∀ t : Fin grid0.N, cc0_transform_6 (grid0.coords t) = ![t.val, 0, 0] := by decide +kernel

/-- The batch of a grid point. -/
abbrev batch (hO : Ok m) (t : Fin (cfgM m hO).N) : Fin 9 := ⟨t.val, t.isLt⟩

/-- Where an index of the output's block at point `t` lies in the array. -/
theorem emb6 (hO : Ok m) (t : Fin (cfgM m hO).N) (j : S1x4096x512.Idx) :
    (((cfgM m hO).win 6).blk t).view.emb j = ix3 (batch m hO t) (j 1) (j 2) := by
  have e := idx6 t
  funext a; apply Fin.ext
  match a with
  | ⟨0, _⟩ =>
    show cc0_transform_6 (grid0.coords t) (0 : Fin 3) * 1 + 1 * (j 0).val = t.val
    have h0 : (j 0).val < 1 := (j 0).isLt
    rw [e]; show t.val * 1 + 1 * (j 0).val = t.val; omega
  | ⟨1, _⟩ =>
    show cc0_transform_6 (grid0.coords t) (1 : Fin 3) * 4096 + 1 * (j 1).val = (j 1).val
    rw [e]; show 0 * 4096 + 1 * (j 1).val = (j 1).val; omega
  | ⟨2, _⟩ =>
    show cc0_transform_6 (grid0.coords t) (2 : Fin 3) * 512 + 1 * (j 2).val = (j 2).val
    rw [e]; show 0 * 512 + 1 * (j 2).val = (j 2).val; omega

/-- The queries' block at point `t` is batch `t`. -/
theorem iblk3_at (hO : Ok m) (c : Dev nD) (t : Fin (cfgM m hO).N) (r : Fin 4096) (q : Fin 512) :
    (iblk m hO c 3 t : Vec Ideal S1x4096x512 .fp8e4m3) (ix3 0 r q) = m ((c : Thread nD τ).loc main_arg0) (ix3 (batch m hO t) r q) := by
  have e := idx3 t
  refine congrArg (m ((c : Thread nD τ).loc main_arg0)) (funext fun a => Fin.ext ?_)
  match a with
  | ⟨0, _⟩ => show cc0_transform_3 (grid0.coords t) (0 : Fin 3) * 1 + 1 * 0 = t.val; rw [e]; show t.val * 1 + 1 * 0 = t.val; omega
  | ⟨1, _⟩ => show cc0_transform_3 (grid0.coords t) (1 : Fin 3) * 4096 + 1 * r.val = r.val; rw [e]; show 0 * 4096 + 1 * r.val = r.val; omega
  | ⟨2, _⟩ => show cc0_transform_3 (grid0.coords t) (2 : Fin 3) * 512 + 1 * q.val = q.val; rw [e]; show 0 * 512 + 1 * q.val = q.val; omega

/-- The keys' block at point `t` is batch `t`. -/
theorem iblk4_at (hO : Ok m) (c : Dev nD) (t : Fin (cfgM m hO).N) (r : Fin 4096) (q : Fin 64) :
    (iblk m hO c 4 t : Vec Ideal S1x4096x64 .fp8e4m3) (ix3 0 r q) = m ((c : Thread nD τ).loc main_arg1) (ix3 (batch m hO t) r q) := by
  have e := idx4 t
  refine congrArg (m ((c : Thread nD τ).loc main_arg1)) (funext fun a => Fin.ext ?_)
  match a with
  | ⟨0, _⟩ => show cc0_transform_4 (grid0.coords t) (0 : Fin 3) * 1 + 1 * 0 = t.val; rw [e]; show t.val * 1 + 1 * 0 = t.val; omega
  | ⟨1, _⟩ => show cc0_transform_4 (grid0.coords t) (1 : Fin 3) * 4096 + 1 * r.val = r.val; rw [e]; show 0 * 4096 + 1 * r.val = r.val; omega
  | ⟨2, _⟩ => show cc0_transform_4 (grid0.coords t) (2 : Fin 3) * 64 + 1 * q.val = q.val; rw [e]; show 0 * 64 + 1 * q.val = q.val; omega

/-- The values' block at point `t` is batch `t`. -/
theorem iblk5_at (hO : Ok m) (c : Dev nD) (t : Fin (cfgM m hO).N) (r : Fin 4096) (q : Fin 64) :
    (iblk m hO c 5 t : Vec Ideal S1x4096x64 .fp8e4m3) (ix3 0 r q) = m ((c : Thread nD τ).loc main_arg2) (ix3 (batch m hO t) r q) := by
  have e := idx5 t
  refine congrArg (m ((c : Thread nD τ).loc main_arg2)) (funext fun a => Fin.ext ?_)
  match a with
  | ⟨0, _⟩ => show cc0_transform_5 (grid0.coords t) (0 : Fin 3) * 1 + 1 * 0 = t.val; rw [e]; show t.val * 1 + 1 * 0 = t.val; omega
  | ⟨1, _⟩ => show cc0_transform_5 (grid0.coords t) (1 : Fin 3) * 4096 + 1 * r.val = r.val; rw [e]; show 0 * 4096 + 1 * r.val = r.val; omega
  | ⟨2, _⟩ => show cc0_transform_5 (grid0.coords t) (2 : Fin 3) * 64 + 1 * q.val = q.val; rw [e]; show 0 * 64 + 1 * q.val = q.val; omega

/-- The queries' scales are staged whole. -/
theorem iblk0_at (hO : Ok m) (c : Dev nD) (t : Fin (cfgM m hO).N) (h : Fin 8) :
    (iblk m hO c 0 t : Vec Ideal S8 .f32) (ix1 h) = m ((c : Thread nD τ).loc main_arg3) (ix1 h) := by
  refine congrArg (m ((c : Thread nD τ).loc main_arg3)) (funext fun a => Fin.ext ?_)
  match a with
  | ⟨0, _⟩ => show 0 * 8 + 1 * h.val = h.val; omega

/-- The keys' scale is staged whole. -/
theorem iblk1_at (hO : Ok m) (c : Dev nD) (t : Fin (cfgM m hO).N) :
    (iblk m hO c 1 t : Vec Ideal S1 .f32) (ix1 0) = m ((c : Thread nD τ).loc main_arg4) (ix1 0) := by
  refine congrArg (m ((c : Thread nD τ).loc main_arg4)) (funext fun a => Fin.ext ?_)
  match a with
  | ⟨0, _⟩ => rfl

/-- The values' scale is staged whole. -/
theorem iblk2_at (hO : Ok m) (c : Dev nD) (t : Fin (cfgM m hO).N) :
    (iblk m hO c 2 t : Vec Ideal S1 .f32) (ix1 0) = m ((c : Thread nD τ).loc main_arg5) (ix1 0) := by
  refine congrArg (m ((c : Thread nD τ).loc main_arg5)) (funext fun a => Fin.ext ?_)
  match a with
  | ⟨0, _⟩ => rfl

/-- The length the body reads at point `t` is that of batch `t`. -/
theorem lenW_at (hO : Ok m) (c : Dev nD) (t : Fin (cfgM m hO).N) :
    lenW c (grid0.coords t) (tbl m 0) = m ((c : Thread nD τ).loc main_arg6) (ix1 (batch m hO t)) := by
  refine Eq.trans (congrFun (readAt_read _ _ _) _) ?_
  refine Eq.trans (b := tbl m 0 (ix1 (batch m hO t))) (congrArg (tbl m 0) (funext fun a => Fin.ext ?_)) ?_
  · match a with
    | ⟨0, _⟩ =>
      refine Eq.trans (congrArg (· + 1 * 0) (congrFun (k0_off1_eq (grid0.coords t)) 0)) ?_
      show ((grid0.coords t) 0).val + 1 * 0 = t.val
      rw [coords_val]; rfl
  · exact congrFun (V_pre m c 0).symm _

/-- The result of the arguments as launched. -/
abbrev attnM (c : Dev nD) : Vec Ideal S9x4096x512 .bf16 :=
  attnG (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What the body leaves at point `t` is the attention of batch `t`. -/
theorem outAt_at (hO : Ok m) (c : Dev nD) (t : Fin (cfgM m hO).N) (j : S1x4096x512.Idx) :
    outAt m hO c t j = attnM m c (ix3 (batch m hO t) (j 1) (j 2)) := by
  have hj : j = ix3 0 (j 1) (j 2) := by
    funext a
    match a with
    | ⟨0, _⟩ => exact Subsingleton.elim (α := Fin 1) _ _
    | ⟨1, _⟩ => rfl
    | ⟨2, _⟩ => rfl
  refine (congrArg (outAt m hO c t) hj).trans ?_
  unfold outAt
  exact outG_attn (lenW_at m hO c t) (iblk3_at m hO c t) (iblk4_at m hO c t) (iblk5_at m hO c t) (iblk0_at m hO c t)
    (iblk1_at m hO c t) (iblk2_at m hO c t) (j 1) (j 2)

/-- What point `t` writes back is its block of the attention. -/
theorem flushed6_eq (hO : Ok m) (c : Dev nD) (t : Fin (cfgM m hO).N) :
    (dats m hO 0 c).flushed 6 t = (((cfgM m hO).win 6).blk t).view.read (Elt Ideal) (attnM m c) := by
  show ((cfgM m hO).win 6).cut (grid0.coords t) ((dats m hO 0 c).after 6 t) = _
  rw [after0_6]
  funext j
  exact (outAt_at m hO c t j).trans (congrArg (attnM m c) (emb6 m hO t j)).symm

/-- The output is written back at every point. -/
theorem flush6 (hO : Ok m) (t : Fin (cfgM m hO).N) : ((cfgM m hO).win 6).flush t = true :=
  (Pipeline.Window.flush_eq_flushOf ((cfgM m hO).win 6) t).trans
    ((by decide +kernel : ∀ t : Fin grid0.N, Pipeline.Window.flushOf grid0 true cc0_transform_6 t = true) t)

/-- Every index of the array is in the block of its batch. -/
theorem covered6 (hO : Ok m) (i : S9x4096x512.Idx) :
    ∃ t : Fin (cfgM m hO).N, ((cfgM m hO).win 6).flush t = true ∧ i ∈ (((cfgM m hO).win 6).blk t).view.set := by
  refine ⟨⟨(i 0).val, (i 0).isLt⟩, ?_, ?_⟩
  · exact flush6 m hO _
  · have h := (((cfgM m hO).win 6).blk ⟨(i 0).val, (i 0).isLt⟩).view.emb_mem_set (ix3 0 (i 1) (i 2))
    rw [emb6] at h
    have hi : (ix3 (batch m hO ⟨(i 0).val, (i 0).isLt⟩) (i 1) (i 2) : S9x4096x512.Idx) = i := by
      funext a
      match a with
      | ⟨0, _⟩ => rfl
      | ⟨1, _⟩ => rfl
      | ⟨2, _⟩ => rfl
    exact hi ▸ h

/-- The output array after the run is the attention. -/
theorem final6 (hO : Ok m) (c : Dev nD) : (dats m hO 0 c).arrAt 6 (cfgM m hO).N
      = attnM m c :=
  (dats m hO 0 c).arrAt_eq_of_cover 6 _ (fun t _ => flushed6_eq m hO c t) (covered6 m hO)

/-- The run: the result is the attention of the arguments, which end unchanged. -/
theorem run (hO : Ok m) : θ_run defs (onTc (τ := τ) (main (F := Ideal))) ⟨m, fun _ => 0, ρ⟩ (fun r => ∀ c : Dev nD,
      r.2.mem ((c.tc : Thread nD τ).loc main_v0)
        = attnM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 6).trans (final6 m hO c),
    (arr_in m hO h.1 c 3 rfl).trans (V_main_arg0 m c), (arr_in m hO h.1 c 4 rfl).trans (V_main_arg1 m c),
    (arr_in m hO h.1 c 5 rfl).trans (V_main_arg2 m c), (arr_in m hO h.1 c 0 rfl).trans (V_main_arg3 m c),
    (arr_in m hO h.1 c 1 rfl).trans (V_main_arg4 m c), (arr_in m hO h.1 c 2 rfl).trans (V_main_arg5 m c),
    ((h.1 c).2 main_arg6 (by decide : main_arg6 ∈ Pipeline.restRefs sig spec0)).trans (V_main_arg6 m c)⟩) (run_main_quiescent m ρ hO)

end Cert.KernelIdeal.Run

end
-- ==== Proof.ReferenceValue.lean ====
/- `ReferenceIdeal`'s result read at an index over the extended reals. -/
module

public import proofs.«01_k».proof.Proof.Gen.ReferenceIdeal.Value
public import proofs.«01_k».proof.Proof.Softmax
public import Idealize.ShloMosaic.Lib.Pointwise

@[expose] public section

set_option maxRecDepth 16384

noncomputable section

namespace Cert.ReferenceIdeal.Value

open Cert.ReferenceIdeal Cert.ReferenceIdeal.Gen Cert.Softmax
open Idealize.ShloMosaic
open scoped BigOperators

/-- The pattern of minus infinity is the bottom of the extended reals. -/
theorem ofBits_bot : Ideal.ofBits .f32 0xFF800000#32 = ⊥ := by
  simp [Ideal.ofBits, Ideal.ieee]

/-- A small number as a word, read as an integer. -/
theorem toInt_ofNat {n : ℕ} (h : n < 2 ^ 31) : (BitVec.ofNat 32 n).toInt = n := by
  rw [BitVec.toInt_eq_toNat_cond, BitVec.toNat_ofNat, Nat.mod_eq_of_lt (by omega), if_pos (by omega)]

/-- A choice by the signed comparison of small words. -/
theorem select_sle {a b : ℕ} (ha : a < 2 ^ 31) (hb : b < 2 ^ 31) (x y : EReal) :
    Scalar.select (IntOp.cmpi .sle (BitVec.ofNat 32 a) (BitVec.ofNat 32 b)) x y = if a ≤ b then x else y := by
  by_cases h : a ≤ b <;> simp [Scalar.select, IntOp.cmpi, BitVec.sle, toInt_ofNat ha, toInt_ofNat hb, h]

/-- A choice by the signed strict comparison of words. -/
theorem select_slt (a : BitVec 32) (v1 : BitVec 32) (x y : EReal) :
    Scalar.select (IntOp.cmpi .slt a v1) x y = if a.toInt < v1.toInt then x else y := by
  by_cases h : a.toInt < v1.toInt <;> simp [Scalar.select, IntOp.cmpi, BitVec.slt, h]

set_option maxHeartbeats 1000000 in
/-- The weighted sums before the scale of the values: row `r` of the stacked heads is row `r / 8` of head `r % 8`. -/
theorem pay2_at (qs : Vec Ideal S8 .f32) (ks vs : Vec Ideal S1 .f32) (x : Vec Ideal S9x4096x512 .fp8e4m3)
    (k v : Vec Ideal S9x4096x64 .fp8e4m3) (b : Fin 9) (r : Fin 4096) (h : Fin 8) (d : Fin 64) (s : Fin 32768) (hs : s.val = r.val * 8 + h.val) :
    k0_pay2 (F := Ideal) qs ks x k v (ix3 b s d) * vs (ix1 0)
      = attend (rowT (fun e => x (ix3 b r ⟨h.val * 64 + e.val, by omega⟩)) (fun j e => k (ix3 b j e))
          (qs (ix1 h) * ks (ix1 0) * Ideal.ofBits .f32 0x3E000000#32) r.val) (fun j => v (ix3 b j d)) (vs (ix1 0)) := by
  have hr : s.val / 8 = r.val := by omega
  have hh : s.val % 8 = h.val := by omega
  have hh' : (s.val / 8 * 8 + s.val % 8) % 8 = h.val := by omega
  pointwise [k0_pay2]
  simp only [hh', hr, hh, ofBits_bot, Fin.eta, show (r.val * 8 + h.val) % 8 = h.val by omega]
  have hsel : ∀ (j : Fin 4096) (y z : EReal), Scalar.select (IntOp.cmpi .sle (BitVec.ofNat 32 j.val) (BitVec.ofNat 32 r.val)) y z
      = if j.val ≤ r.val then y else z := fun j y z => select_sle (by omega) (by omega) y z
  have hfold : ∀ f : Fin 4096 → EReal, Finset.fold max ⊥ f Finset.univ = Finset.univ.sup f := fun _ => rfl
  have hT : ∀ (Q : Fin 64 → EReal) (K : Fin 4096 → Fin 64 → EReal) (c : EReal) (r : ℕ),
      rowT Q K c r = fun j : Fin 4096 => if j.val ≤ r then (∑ e, Q e * K j e) * c else ⊥ := fun _ _ _ _ => rfl
  simp only [hsel, hfold]
  simp only [attend, hT]

/-- The scaled sums at an index, those of the rows the length does not cover at zero. -/
theorem pay1_at (p : FVec Ideal S9x32768x64 .f32) (vs : Vec Ideal S1 .f32) (n : Vec Ideal S9 .i32) (b : Fin 9) (r : Fin 4096) (c : Fin 512) :
    k0_pay1 (F := Ideal) p (k0_pay3 vs) n (ix3 b r c)
      = if (BitVec.ofNat 32 r.val).toInt < (n (ix1 b)).toInt then
          p (ix3 b ⟨r.val * 8 + c.val / 64, by omega⟩ ⟨c.val % 64, by omega⟩) * vs (ix1 0)
        else 0 := by
  rw [← select_slt]
  pointwise [k0_pay1, k0_pay3]

set_option maxHeartbeats 1000000 in
/-- The reference's result at an index. -/
theorem G7_at (x : Vec Ideal S9x4096x512 .fp8e4m3) (k v : Vec Ideal S9x4096x64 .fp8e4m3) (qs : Vec Ideal S8 .f32)
    (ks vs : Vec Ideal S1 .f32) (n : Vec Ideal S9 .i32) (b : Fin 9) (r : Fin 4096) (c : Fin 512) :
    k0_pay1 (F := Ideal) (k0_pay2 qs ks x k v) (k0_pay3 vs) n (ix3 b r c)
      = attnAt (fun r c => x (ix3 b r c)) (fun j e => k (ix3 b j e)) (fun j e => v (ix3 b j e)) (fun h => qs (ix1 h)) (ks (ix1 0))
          (vs (ix1 0)) (n (ix1 b)) r c := by
  unfold attnAt
  have h := pay2_at qs ks vs x k v b r ⟨c.val / 64, by omega⟩ ⟨c.val % 64, by omega⟩ ⟨r.val * 8 + c.val / 64, by omega⟩ rfl
  rw [← h]
  generalize k0_pay2 (F := Ideal) qs ks x k v = p
  exact pay1_at p vs n b r c

end Cert.ReferenceIdeal.Value
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelFrame
public import proofs.«01_k».proof.Proof.KernelIdealFrame
public import proofs.«01_k».proof.Proof.KernelIdealValue
public import proofs.«01_k».proof.Proof.ReferenceValue

@[expose] public section

noncomputable section

namespace Cert.Proof

open Idealize.ShloMosaic Idealize.SL.Sem Cert.Kernel

/-- The reference's result is the attention of its arguments. -/
theorem reference_eq (x : Vec Ideal Cert.ReferenceIdeal.S9x4096x512 .fp8e4m3) (k v : Vec Ideal Cert.ReferenceIdeal.S9x4096x64 .fp8e4m3)
    (qs : Vec Ideal Cert.ReferenceIdeal.S8 .f32) (ks vs : Vec Ideal Cert.ReferenceIdeal.S1 .f32) (n : Vec Ideal Cert.ReferenceIdeal.S9 .i32) :
    Cert.ReferenceIdeal.Value.G7 (F := Ideal) x k v qs ks vs n = Cert.KernelIdeal.Run.attnG x k v qs ks vs n := by
  funext i
  have hi : i = ix3 (i 0) (i 1) (i 2) := by
    funext a
    match a with
    | ⟨0, _⟩ => rfl
    | ⟨1, _⟩ => rfl
    | ⟨2, _⟩ => rfl
  exact (congrArg (Cert.ReferenceIdeal.Value.G7 (F := Ideal) x k v qs ks vs n) hi).trans
    (Cert.ReferenceIdeal.Value.G7_at x k v qs ks vs n (i 0) (i 1) (i 2))

/-- The kernel's result and the reference's are equal over the extended reals: both are the attention of the arguments. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Run.attnM m c, Cert.KernelIdeal.Run.run m g trivial, ?_⟩
  refine (θ_run Cert.ReferenceIdeal.defs _ _).mono (fun r h c => ⟨(h c).1.trans ?_, (h c).2⟩) (Cert.ReferenceIdeal.Value.run m' g')
  obtain ⟨h0, h1, h2, h3, h4, h5, h6⟩ := hm c
  rw [h0, h1, h2, h3, h4, h5, h6]
  exact reference_eq _ _ _ _ _ _ _

/-- Every claim of the certificate. -/
theorem claim : Cert.Claim :=
  ⟨Cert.Kernel.Gen.facts, Cert.KernelIdeal.Gen.facts, Cert.ReferenceIdeal.Gen.facts,
    fun m g _ => Cert.Kernel.Run.frame m g trivial,
    fun m g _ => Cert.KernelIdeal.Run.frame m g trivial,
    fun m g _ => Cert.ReferenceIdeal.Gen.frame m g,
    IdealRules.named_const.statement Cert.KernelIdeal.κ "log2_e" .f32 0x3FB8AA3B#32 (((Real.log 2)⁻¹ : ℝ) : EReal) rfl,
    algebraic⟩

end Cert.Proof

end
